-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S8x256x256 : Shape := ⟨3, ![8, 256, 256]⟩
abbrev S256x1024 : Shape := ⟨2, ![256, 1024]⟩
abbrev S7x256x1024 : Shape := ⟨3, ![7, 256, 1024]⟩
abbrev S7x2 : Shape := ⟨2, ![7, 2]⟩
abbrev S_ : Shape := ⟨0, ![]⟩
abbrev S1x256x256 : Shape := ⟨3, ![1, 256, 256]⟩
abbrev S256x256 : Shape := ⟨2, ![256, 256]⟩
abbrev S1x1 : Shape := ⟨2, ![1, 1]⟩
abbrev S1x256x512 : Shape := ⟨3, ![1, 256, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S8x256x256, .bf16⟩
  | .hbm, ⟨3, _⟩ => ⟨S256x2048, .f32⟩
  | .local _ .vmem, ⟨0, _⟩ => ⟨S8x256x256, .bf16⟩
  | .local _ .vmem, ⟨1, _⟩ => ⟨S256x2048, .bf16⟩
  | .local _ .vmem, ⟨2, _⟩ => ⟨S256x2048, .f32⟩
  | .local _ .vmem, ⟨3, _⟩ => ⟨S256x1024, .bf16⟩
  | .local _ .vmem, ⟨4, _⟩ => ⟨S256x1024, .bf16⟩
  | .local _ .vmem, ⟨5, _⟩ => ⟨S7x256x1024, .bf16⟩
  | .local _ .vmem, ⟨6, _⟩ => ⟨S7x256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_off1 (d0 : Dev nD) (c7_i32_8 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v12 : BitVec 32 := Scalar.addi v2 c7_i32_8
  let c8_i32_9 : BitVec 32 := 8#32
  let v13 : BitVec 32 := Scalar.remsi v12 c8_i32_9
  let v14 : Index := Scalar.indexCast v13
  let c0 : Index := 0#32
  let c0_10 : Index := 0#32
  ![v14.toNat, 0, 0]
def k0_off1_at (r : Fin 9) : BitVec 32 :=
  if r.val < 4 then
    if r.val < 2 then
      if r.val < 1 then
        7#32
      else
        1#32
    else
      if r.val < 3 then
        14#32
      else
        13#32
  else
    if r.val < 6 then
      if r.val < 5 then
        12#32
      else
        11#32
    else
      if r.val < 7 then
        10#32
      else
        if r.val < 8 then
          9#32
        else
          8#32
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_28 : BitVec 32 := 1#32
  let v36 : BitVec 32 := Scalar.muli v6 c1_i32_28
  let v37 : BitVec 32 := Scalar.addi c0_i32_29 v36
  v37.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_39 : BitVec 32 := 1#32
  let v45 : BitVec 32 := Scalar.muli v4 c1_i32_39
  let v46 : BitVec 32 := Scalar.addi c0_i32_40 v45
  v46.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_50 : BitVec 32 := 1#32
  let v54 : BitVec 32 := Scalar.muli v6 c1_i32_50
  let v55 : BitVec 32 := Scalar.addi c0_i32_51 v54
  v55.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_60 : BitVec 32 := 1#32
  let v63 : BitVec 32 := Scalar.muli v4 c1_i32_60
  let v64 : BitVec 32 := Scalar.addi c0_i32_61 v63
  v64.toNat
def k0_off2 (d0 : Dev nD) (c0_i32_73 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_72 : BitVec 32 := 2#32
  let v80 : BitVec 32 := Scalar.addi v2 c2_i32_72
  let v81 : BitVec 32 := Scalar.addi v80 c0_i32_73
  let c8_i32_74 : BitVec 32 := 8#32
  let v82 : BitVec 32 := Scalar.remsi v81 c8_i32_74
  let v83 : Index := Scalar.indexCast v82
  let c0_75 : Index := 0#32
  let c0_76 : Index := 0#32
  ![v83.toNat, 0, 0]
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_111 : BitVec 32 := 1#32
  let v110 : BitVec 32 := Scalar.muli v6 c1_i32_111
  let v111 : BitVec 32 := Scalar.addi c0_i32_112 v110
  v111.toNat
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_148 : BitVec 32 := 1#32
  let v140 : BitVec 32 := Scalar.muli v4 c1_i32_148
  let v141 : BitVec 32 := Scalar.addi c0_i32_149 v140
  v141.toNat
def k0_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_184 : BitVec 32 := 1#32
  let v170 : BitVec 32 := Scalar.muli v6 c1_i32_184
  let v171 : BitVec 32 := Scalar.addi c0_i32_185 v170
  v171.toNat
def k0_dev10 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_221 : BitVec 32 := 1#32
  let v200 : BitVec 32 := Scalar.muli v4 c1_i32_221
  let v201 : BitVec 32 := Scalar.addi c0_i32_222 v200
  v201.toNat
def k0_dev11 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_271 : BitVec 32 := 1#32
  let v247 : BitVec 32 := Scalar.muli v6 c1_i32_271
  let v248 : BitVec 32 := Scalar.addi c0_i32_272 v247
  v248.toNat
def k0_dev12 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_308 : BitVec 32 := 1#32
  let v277 : BitVec 32 := Scalar.muli v4 c1_i32_308
  let v278 : BitVec 32 := Scalar.addi c0_i32_309 v277
  v278.toNat
def k0_dev13 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_345 : BitVec 32 := 1#32
  let v307 : BitVec 32 := Scalar.muli v6 c1_i32_345
  let v308 : BitVec 32 := Scalar.addi c0_i32_346 v307
  v308.toNat
def k0_dev14 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_382 : BitVec 32 := 1#32
  let v337 : BitVec 32 := Scalar.muli v4 c1_i32_382
  let v338 : BitVec 32 := Scalar.addi c0_i32_383 v337
  v338.toNat
def k0_dev15 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_431 : BitVec 32 := 1#32
  let v384 : BitVec 32 := Scalar.muli v6 c1_i32_431
  let v385 : BitVec 32 := Scalar.addi c0_i32_432 v384
  v385.toNat
def k0_dev16 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_468 : BitVec 32 := 1#32
  let v414 : BitVec 32 := Scalar.muli v4 c1_i32_468
  let v415 : BitVec 32 := Scalar.addi c0_i32_469 v414
  v415.toNat
def k0_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_505 : BitVec 32 := 1#32
  let v444 : BitVec 32 := Scalar.muli v6 c1_i32_505
  let v445 : BitVec 32 := Scalar.addi c0_i32_506 v444
  v445.toNat
def k0_dev18 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_542 : BitVec 32 := 1#32
  let v474 : BitVec 32 := Scalar.muli v4 c1_i32_542
  let v475 : BitVec 32 := Scalar.addi c0_i32_543 v474
  v475.toNat
def k0_dev19 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_591 : BitVec 32 := 1#32
  let v521 : BitVec 32 := Scalar.muli v6 c1_i32_591
  let v522 : BitVec 32 := Scalar.addi c0_i32_592 v521
  v522.toNat
def k0_dev20 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_628 : BitVec 32 := 1#32
  let v551 : BitVec 32 := Scalar.muli v4 c1_i32_628
  let v552 : BitVec 32 := Scalar.addi c0_i32_629 v551
  v552.toNat
def k0_dev21 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_665 : BitVec 32 := 1#32
  let v581 : BitVec 32 := Scalar.muli v6 c1_i32_665
  let v582 : BitVec 32 := Scalar.addi c0_i32_666 v581
  v582.toNat
def k0_dev22 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_702 : BitVec 32 := 1#32
  let v611 : BitVec 32 := Scalar.muli v4 c1_i32_702
  let v612 : BitVec 32 := Scalar.addi c0_i32_703 v611
  v612.toNat
def k0_dev23 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_751 : BitVec 32 := 1#32
  let v658 : BitVec 32 := Scalar.muli v6 c1_i32_751
  let v659 : BitVec 32 := Scalar.addi c0_i32_752 v658
  v659.toNat
def k0_dev24 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_788 : BitVec 32 := 1#32
  let v688 : BitVec 32 := Scalar.muli v4 c1_i32_788
  let v689 : BitVec 32 := Scalar.addi c0_i32_789 v688
  v689.toNat
def k0_dev25 (d0 : Dev nD) : Nat :=
  let c0_i32_826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_825 : BitVec 32 := 1#32
  let v718 : BitVec 32 := Scalar.muli v6 c1_i32_825
  let v719 : BitVec 32 := Scalar.addi c0_i32_826 v718
  v719.toNat
def k0_dev26 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_862 : BitVec 32 := 1#32
  let v748 : BitVec 32 := Scalar.muli v4 c1_i32_862
  let v749 : BitVec 32 := Scalar.addi c0_i32_863 v748
  v749.toNat
def k0_dev27 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_911 : BitVec 32 := 1#32
  let v795 : BitVec 32 := Scalar.muli v6 c1_i32_911
  let v796 : BitVec 32 := Scalar.addi c0_i32_912 v795
  v796.toNat
def k0_dev28 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_948 : BitVec 32 := 1#32
  let v825 : BitVec 32 := Scalar.muli v4 c1_i32_948
  let v826 : BitVec 32 := Scalar.addi c0_i32_949 v825
  v826.toNat
def k0_dev29 (d0 : Dev nD) : Nat :=
  let c0_i32_986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_985 : BitVec 32 := 1#32
  let v855 : BitVec 32 := Scalar.muli v6 c1_i32_985
  let v856 : BitVec 32 := Scalar.addi c0_i32_986 v855
  v856.toNat
def k0_dev30 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1022 : BitVec 32 := 1#32
  let v885 : BitVec 32 := Scalar.muli v4 c1_i32_1022
  let v886 : BitVec 32 := Scalar.addi c0_i32_1023 v885
  v886.toNat
abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.RingBody.lean ====
/-
  The kernel of the fused matmul and ring reduce-scatter, restated as a start, seven steps over the two directions and
  the two column halves of each, and the proof that the printed kernel is this program.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-! ## The two directions' buffers and semaphores (`true`: towards the next device, `false`: towards the previous) -/

/-- The staging buffer of a direction: what the device sends next. -/
def stgM : Bool → Memref sig .tc .vmem S256x1024 .bf16
  | true => Memref.whole cc0_scratch0
  | false => Memref.whole cc0_scratch1

/-- The landing buffer of a direction: one slot per step. -/
def rcvM : Bool → Memref sig .tc .vmem S7x256x1024 .bf16
  | true => Memref.whole cc0_scratch2
  | false => Memref.whole cc0_scratch3

theorem stgM_whole : ∀ d, (stgM d).IsWhole
  | true => Memref.isWhole_whole _
  | false => Memref.isWhole_whole _

theorem rcvM_whole : ∀ d, (rcvM d).IsWhole
  | true => Memref.isWhole_whole _
  | false => Memref.isWhole_whole _

/-- The semaphores counting the sends of a direction that have left. -/
def sndA : Bool → DmaSems sig S7x2
  | true => cc0_scratch4
  | false => cc0_scratch6

/-- The semaphores counting the sends of a direction that have landed here. -/
def rcvA : Bool → DmaSems sig S7x2
  | true => cc0_scratch5
  | false => cc0_scratch7

/-- The device a direction sends to, as the kernel computes it. -/
def tgt : Bool → Dev nD → Dev nD
  | true, c => ⟨k0_dev3 c, k0_dev3_lt c⟩
  | false, c => ⟨k0_dev4 c, k0_dev4_lt c⟩

/-! ## The pieces of the buffers -/

theorem half_inb (q : Fin 2) : ∀ a, (![0, 512 * q.val] : Fin 2 → Nat) a + S256x512.size a ≤ S256x1024.size a := by
  revert q; decide
theorem slot_inb (s : Fin 7) (q : Fin 2) :
    ∀ a, (![s.val, 0, 512 * q.val] : Fin 3 → Nat) a + S1x256x512.size a ≤ S7x256x1024.size a := by
  revert s q; decide
theorem sem_inb (s : Fin 7) (q : Fin 2) : ∀ a, (![s.val, q.val] : Fin 2 → Nat) a + S1x1.size a ≤ S7x2.size a := by
  revert s q; decide
theorem wcol_inb (d : Bool) : ∀ a, (![0, cond d 0 1024] : Fin 2 → Nat) a + S256x1024.size a ≤ S256x2048.size a := by
  revert d; decide
theorem ocol_inb (d : Bool) (q : Fin 2) :
    ∀ a, (![0, cond d 0 1024 + 512 * q.val] : Fin 2 → Nat) a + S256x512.size a ≤ S256x2048.size a := by
  revert d q; decide
theorem xfirst_inb (d : Bool) (c : Dev nD) :
    ∀ a, (k0_off1 c (cond d 7#32 1#32)) a + S1x256x256.size a ≤ S8x256x256.size a :=
  match d with
  | true => k0_off1_inb c 0
  | false => k0_off1_inb c 1

/-- The columns of a half's sub-block of a staging buffer. -/
abbrev halfR (q : Fin 2) : Rect S256x1024 := Rect.unit (s := S256x1024) ![0, 512 * q.val] S256x512.size (half_inb q)
/-- The slot of a step, the columns of a sub-block, in a landing buffer. -/
abbrev slotR (s : Fin 7) (q : Fin 2) : Rect S7x256x1024 :=
  Rect.unit (s := S7x256x1024) ![s.val, 0, 512 * q.val] S1x256x512.size (slot_inb s q)
/-- The columns of the weights a direction multiplies by. -/
abbrev wR (d : Bool) : Rect S256x2048 := Rect.unit (s := S256x2048) ![0, cond d 0 1024] S256x1024.size (wcol_inb d)
/-- The columns of the result a direction's sub-block fills. -/
abbrev outR (d : Bool) (q : Fin 2) : Rect S256x2048 :=
  Rect.unit (s := S256x2048) ![0, cond d 0 1024 + 512 * q.val] S256x512.size (ocol_inb d q)
/-- The rows of the activations behind the first value a direction sends. -/
abbrev xFirstR (d : Bool) (c : Dev nD) : Rect S8x256x256 :=
  Rect.unit (s := S8x256x256) (k0_off1 c (cond d 7#32 1#32)) S1x256x256.size (xfirst_inb d c)

/-- The row of the table of offsets a step reads. -/
abbrev row1 (s : Fin 7) : Fin 9 := ⟨2 + s.val, Nat.add_lt_add_left s.isLt 2⟩

/-- Where the rows behind what a direction adds at a step begin. -/
def xStepOff : Bool → Fin 7 → Dev nD → Fin 3 → Nat
  | true, s, c => k0_off1 c (k0_off1_at (row1 s))
  | false, s, c => k0_off2 c (BitVec.ofNat 32 s.val)

theorem xstep_inb : ∀ (d : Bool) (s : Fin 7) (c : Dev nD), ∀ a, (xStepOff d s c) a + S1x256x256.size a ≤ S8x256x256.size a
  | true, s, c => k0_off1_inb c (row1 s)
  | false, s, c => k0_off2_inb c s

/-- The rows of the activations behind what a direction adds at a step. -/
abbrev xStepR (d : Bool) (s : Fin 7) (c : Dev nD) : Rect S8x256x256 :=
  Rect.unit (s := S8x256x256) (xStepOff d s c) S1x256x256.size (xstep_inb d s c)

theorem half_words (q : Fin 2) : (halfR q).WholeWords (EltTy.packing .bf16) := by revert q; decide
theorem half_packed (q : Fin 2) : (halfR q).PackedRows (EltTy.packing .bf16) := by revert q; decide
theorem slot_words (s : Fin 7) (q : Fin 2) : (slotR s q).WholeWords (EltTy.packing .bf16) := by revert s q; decide

/-- A sub-block of a staging buffer. -/
abbrev halfM (d : Bool) (q : Fin 2) : Memref sig .tc .vmem S256x512 .bf16 := (stgM d).slice (halfR q) (fun _ => rfl)
/-- A sub-block of a landing slot, with the slot's axis. -/
abbrev slot3M (d : Bool) (s : Fin 7) (q : Fin 2) : Memref sig .tc .vmem S1x256x512 .bf16 :=
  (rcvM d).slice (slotR s q) (fun _ => rfl)
/-- A sub-block of a landing slot, as a matrix. -/
abbrev slotM (d : Bool) (s : Fin 7) (q : Fin 2) : Memref sig .tc .vmem S256x512 .bf16 :=
  (slot3M d s q).squeeze S256x512 squeezes_S1x256x512_S256x512
/-- One semaphore of a table of them. -/
abbrev cellOf (A : DmaSems sig S7x2) (s : Fin 7) (q : Fin 2) : DmaSem sig :=
  ((A.slice (Rect.unit (s := S7x2) ![s.val, q.val] S1x1.size (sem_inb s q))).squeeze S_ squeezes_S1x1_S_).sem

theorem half_exact (d : Bool) (q : Fin 2) : (halfM d q).view.WordExact :=
  (stgM_whole d).wordExact_slice rfl _ (half_words q)
theorem slot_exact (d : Bool) (s : Fin 7) (q : Fin 2) : (slotM d s q).view.WordExact :=
  ((rcvM_whole d).wordExact_slice rfl _ (slot_words s q)).reshape _ _

/-! ## The values -/

/-- The slices a sum's sub-block is cut by. -/
theorem half_slices (q : Fin 2) : S256x1024.Slices ![0, 512 * q.val] S256x512 := by revert q; decide

/-- A block of the activations times a half of the weights. -/
def part (xb : Vec F S1x256x256 .bf16) (wb : Vec F S256x1024 .bf16) : FVec F S256x1024 .f32 := k0_pay3 xb wb

/-- The first value sent. -/
def firstV (xb : Vec F S1x256x256 .bf16) (wb : Vec F S256x1024 .bf16) : FVec F S256x1024 .bf16 := k0_pay1 xb wb

/-- What arrived plus the own product's sub-block. -/
def sumV (q : Fin 2) (p : FVec F S256x1024 .f32) (v : Vec F S1x256x512 .bf16) : FVec F S256x512 .f32 :=
  addf (extf .f32 (shapeCast S256x512 v shapeCasts_S1x256x512_S256x512 : FVec F S256x512 .bf16) bitsLt_bf16_f32)
    (extractStridedSlice S256x512 ![0, 512 * q.val] p (half_slices q))

/-- The next value sent. -/
def nextV (q : Fin 2) (p : FVec F S256x1024 .f32) (v : Vec F S1x256x512 .bf16) : FVec F S256x512 .bf16 :=
  shapeCast S256x512 (truncf .bf16 (sumV q p v) bitsLt_bf16_f32) shapeCasts_S256x512_S256x512

/-- The activation function of the result, elementwise. -/
def geluV (a : FVec F S256x512 .f32) : FVec F S256x512 .f32 :=
  mulf (mulf (broadcast S256x512 (Scalar.ofBits .f32 0x3F000000#32)) a)
    (addf (broadcast S256x512 (Scalar.ofBits .f32 0x3F800000#32))
      (tanh (mulf (broadcast S256x512 (Scalar.ofBits .f32 0x3F4C422A#32))
        (addf a (mulf (mulf (mulf (broadcast S256x512 (Scalar.ofBits .f32 0x3D372713#32)) a) a) a)))))

/-! ## The program -/

/-- A thread's program in the kernel's own instruction set. -/
abbrev TcProg (F : FTy → Type) (α : Type) := Prog (TpuEff nD τ sig (Elt F) Λ₀ .tc) α

/-- Start a send of a direction's sub-block into the neighbour's slot of step `s`. -/
def send (c : Dev nD) (d : Bool) (s : Fin 7) (q : Fin 2) : TcProg F PUnit :=
  Prog.lift (.enqueueDma (halfM d q) (.remote (Dev.tc (tgt d c)) (slotM d s q) (.dma (cellOf (sndA d) s q)))
    (.dma (cellOf (rcvA d) s q)) (half_exact d q) (slot_exact d s q) ⟨⟨rfl, Or.inl rfl⟩, trivial⟩)

/-- Wait for the own send of a step to have left, then for the neighbour's to have landed. -/
def await (d : Bool) (s : Fin 7) (q : Fin 2) : TcProg F PUnit := do
  Prog.lift (.waitDma2 (cellOf (sndA d) s q) (slotM d s q) (halfM d q) (slot_exact d s q) (half_exact d q))
  Prog.lift (.waitDma2 (cellOf (rcvA d) s q) (halfM d q) (slotM d s q) (half_exact d q) (slot_exact d s q))

/-- Read what landed. -/
def landed (d : Bool) (s : Fin 7) (q : Fin 2) : TcProg F (Vec F S1x256x512 .bf16) :=
  Prog.lift (.load (rcvM d) (slotR s q).toLoadRect (View.loadsAt_vmem h_S1x256x512))

/-- The product of a block of rows of the activations with a half of the weights' columns. -/
def product (ax : Memref sig .tc .vmem S8x256x256 .bf16) (aw : Memref sig .tc .vmem S256x2048 .bf16) (c : Dev nD)
    (d : Bool) (s : Fin 7) : TcProg F (FVec F S256x1024 .f32) := do
  let xb : Vec F S1x256x256 .bf16 ← Prog.lift (.load ax (xStepR d s c).toLoadRect (View.loadsAt_vmem h_S1x256x256))
  let wb : Vec F S256x1024 .bf16 ← Prog.lift (.load aw (wR d).toLoadRect (View.loadsAt_vmem h_S256x1024))
  pure (part xb wb)

/-- A sub-block's turn in a step that sends on. -/
def turn (c : Dev nD) (s : Fin 7) (hs : s.val + 1 < 7) (q : Fin 2) (d : Bool) (p : FVec F S256x1024 .f32) : TcProg F PUnit := do
  await d s q
  let v : Vec F S1x256x512 .bf16 ← landed d s q
  let _ : Vec F S256x512 .bf16 ← Prog.lift (.load (stgM d) (halfR q).toLoadRect (View.loadsAt_vmem h_S256x512))
  Prog.lift (.store (stgM d) (halfR q) (nextV q p v) Finset.univ
    (View.stores_vmem h_S256x512 ((stgM_whole d).storeExact_slice rfl _ (half_packed q)) (fun _ => rfl)) (.inl rfl))
  send c d ⟨s.val + 1, hs⟩ q

/-- A sub-block's turn in the last step, which fills the result. -/
def lastTurn (ao : Memref sig .tc .vmem S256x2048 .f32) (q : Fin 2) (d : Bool) (p : FVec F S256x1024 .f32) : TcProg F PUnit := do
  await d 6 q
  let v : Vec F S1x256x512 .bf16 ← landed d 6 q
  let _ : Vec F S256x512 .f32 ← Prog.lift (.load ao (outR d q).toLoadRect (View.loadsAt_vmem h_S256x512))
  Prog.lift (.store ao (outR d q) (geluV (sumV q p v)) Finset.univ (View.stores_vmem_bits_univ h_S256x512 rfl) (.inl rfl))

/-- A step that sends on. -/
def step (ax : Memref sig .tc .vmem S8x256x256 .bf16) (aw : Memref sig .tc .vmem S256x2048 .bf16) (c : Dev nD)
    (s : Fin 7) (hs : s.val + 1 < 7) : TcProg F PUnit := do
  let p ← product ax aw c true s
  let p' ← product ax aw c false s
  turn c s hs 0 true p
  turn c s hs 0 false p'
  turn c s hs 1 true p
  turn c s hs 1 false p'

/-- The last step. -/
def lastStep (ax : Memref sig .tc .vmem S8x256x256 .bf16) (aw : Memref sig .tc .vmem S256x2048 .bf16)
    (ao : Memref sig .tc .vmem S256x2048 .f32) (c : Dev nD) : TcProg F PUnit := do
  let p ← product ax aw c true 6
  let p' ← product ax aw c false 6
  lastTurn ao 0 true p
  lastTurn ao 0 false p'
  lastTurn ao 1 true p
  lastTurn ao 1 false p'

/-- The handshake with the two neighbours. -/
def shake (c : Dev nD) : TcProg F PUnit := do
  semSignalWord (⟨k0_dev1 c, k0_dev1_lt c⟩ : Dev nD) barrier0 1#32
  semSignalWord (⟨k0_dev2 c, k0_dev2_lt c⟩ : Dev nD) barrier0 1#32
  semWaitWord barrier0 2#32

theorem stg_packed : (Rect.unit (s := S256x1024) ![0, 0] S256x1024.size inb_S256x1024_S256x1024_0_0).PackedRows (EltTy.packing .bf16) :=
  packedbf16_S256x1024_S256x1024_0_0

/-- A staging buffer's first value. -/
def fill (ax : Memref sig .tc .vmem S8x256x256 .bf16) (aw : Memref sig .tc .vmem S256x2048 .bf16) (c : Dev nD) (d : Bool) :
    TcProg F PUnit := do
  let xb : Vec F S1x256x256 .bf16 ← Prog.lift (.load ax (xFirstR d c).toLoadRect (View.loadsAt_vmem h_S1x256x256))
  let wb : Vec F S256x1024 .bf16 ← Prog.lift (.load aw (wR d).toLoadRect (View.loadsAt_vmem h_S256x1024))
  let _ : Vec F S256x1024 .bf16 ← Prog.lift (.load (stgM d)
    (Rect.unit (s := S256x1024) ![0, 0] S256x1024.size inb_S256x1024_S256x1024_0_0).toLoadRect (View.loadsAt_vmem h_S256x1024))
  Prog.lift (.store (stgM d) (Rect.unit (s := S256x1024) ![0, 0] S256x1024.size inb_S256x1024_S256x1024_0_0) (firstV xb wb) Finset.univ
    (View.stores_vmem h_S256x1024 ((stgM_whole d).storeExact_slice rfl _ stg_packed) (fun _ => rfl)) (.inl rfl))

/-- The first sends. -/
def firstSends (c : Dev nD) : TcProg F PUnit := do
  send c true 0 0
  send c false 0 0
  send c true 0 1
  send c false 0 1

/-- The steps that send on, the first `n` of them. -/
def steps (ax : Memref sig .tc .vmem S8x256x256 .bf16) (aw : Memref sig .tc .vmem S256x2048 .bf16) (c : Dev nD) :
    (n : Nat) → n ≤ 6 → TcProg F PUnit
  | 0, _ => pure ⟨⟩
  | n + 1, h => do
    steps ax aw c n (Nat.le_of_succ_le h)
    step ax aw c ⟨n, Nat.lt_of_succ_le (Nat.le_trans h (by decide))⟩ (Nat.succ_lt_succ h)

/-- The kernel. -/
def ringBody (ax : Memref sig .tc .vmem S8x256x256 .bf16) (aw : Memref sig .tc .vmem S256x2048 .bf16)
    (ao : Memref sig .tc .vmem S256x2048 .f32) : TcProg F PUnit := do
  let c : Dev nD ← Prog.lift .deviceId
  shake c
  fill ax aw c true
  fill ax aw c false
  firstSends c
  steps ax aw c 6 (Nat.le_refl 6)
  lastStep ax aw ao c

set_option maxRecDepth 65536 in
/-- The printed kernel is this program. -/
theorem body_eq (ax : Memref sig .tc .vmem S8x256x256 .bf16) (hax : ax.IsWhole) (aw : Memref sig .tc .vmem S256x2048 .bf16)
    (haw : aw.IsWhole) (ao : Memref sig .tc .vmem S256x2048 .f32) (hao : ao.IsWhole) :
    cc0_body (F := F) ax hax aw haw ao hao (Memref.whole cc0_scratch0) (Memref.isWhole_whole _) (Memref.whole cc0_scratch1)
      (Memref.isWhole_whole _) (Memref.whole cc0_scratch2) (Memref.isWhole_whole _) (Memref.whole cc0_scratch3)
      (Memref.isWhole_whole _) cc0_scratch4 cc0_scratch5 cc0_scratch6 cc0_scratch7
    = ringBody ax aw ao := by
  chain_rfl

end Cert.KernelIdeal.Ring

end
-- ==== Proof.Protocol.lean ====
/-
  The ring's protocol: for each semaphore, who waits on it, who signals it or copies onto it, how much, and what each
  landing hands over, with the values it carries.
-/
module

public import proofs.«01_k».proof.Proof.RingBody
public import Idealize.ShloMosaic.Lib.Pipeline.Kit
public import Idealize.ShloMosaic.Lib.Rounds
public import Idealize.ShloMosaic.Lib.StableHlo
public import Idealize.ShloMosaic.Lib.Tactic
public import Idealize.ShloMosaic.Lib.ViewIndex
public import Idealize.ShloMosaic.Lib.Pipeline.RegionTalk
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's copy and the ring protocol's -/

abbrev UP : Type := URounds (GSem nD τ sig) Unit
abbrev UT : Type := URounds (GSem nD τ sig) Bool
abbrev UU : Type := UP × UT

local notation "𝕄" => MT nD τ sig Unit (Elt F) ℕ UU ℕ

abbrev EP : Emb UP (MT nD τ sig Unit (Elt F) ℕ UU ℕ) := embL
abbrev ER : Emb UT (MT nD τ sig Unit (Elt F) ℕ UU ℕ) := embR

/-! ## The ring -/

/-- Whom a direction's copies come from. -/
abbrev srcOf (d : Bool) (c : Dev nD) : Dev nD := tgt (!d) c

theorem tgt_srcOf : ∀ (d : Bool) (c : Dev nD), tgt d (srcOf d c) = c := by decide
theorem srcOf_tgt : ∀ (d : Bool) (c : Dev nD), srcOf d (tgt d c) = c := by decide
theorem dev1_eq : ∀ c : Dev nD, (⟨k0_dev1 c, k0_dev1_lt c⟩ : Dev nD) = tgt false c := by decide
theorem dev2_eq : ∀ c : Dev nD, (⟨k0_dev2 c, k0_dev2_lt c⟩ : Dev nD) = tgt true c := by decide

/-! ## The values on the wire -/

section Values

variable (X : Dev nD → Vec F S8x256x256 .bf16) (Y : Dev nD → Vec F S256x2048 .bf16)

/-- A step's number as a row of the slots' tables. -/
def slotIx (n : ℕ) : Fin 7 := ⟨n % 7, Nat.mod_lt _ (by decide)⟩
theorem slotIx_of_lt {n : ℕ} (h : n < 7) : slotIx n = ⟨n, h⟩ := Fin.ext (Nat.mod_eq_of_lt h)

/-- What device `c` adds at a step of a direction. -/
def addend (d : Bool) (c : Dev nD) (s : Fin 7) : FVec F S256x1024 .f32 :=
  part (fun i => X c ((xStepR d s c).emb i)) (fun i => Y c ((wR d).emb i))

/-- The value device `c` sends first. -/
def first (d : Bool) (c : Dev nD) : FVec F S256x1024 .bf16 :=
  firstV (fun i => X c ((xFirstR d c).emb i)) (fun i => Y c ((wR d).emb i))

/-- What arrived plus the own product's sub-block, what arrived being a matrix. -/
def sumW (q : Fin 2) (p : FVec F S256x1024 .f32) (w : Vec F S256x512 .bf16) : FVec F S256x512 .f32 :=
  addf (extf .f32 (w : FVec F S256x512 .bf16) bitsLt_bf16_f32) (extractStridedSlice S256x512 ![0, 512 * q.val] p (half_slices q))

/-- The next value sent, what arrived being a matrix. -/
def nextW (q : Fin 2) (p : FVec F S256x1024 .f32) (w : Vec F S256x512 .bf16) : FVec F S256x512 .bf16 :=
  shapeCast S256x512 (truncf .bf16 (sumW q p w) bitsLt_bf16_f32) shapeCasts_S256x512_S256x512

/-- The value device `c` sends at step `n` of a direction, of a sub-block. -/
def wire (d : Bool) (q : Fin 2) : ℕ → Dev nD → Vec F S256x512 .bf16
  | 0, c => fun i => first X Y d c ((halfR q).emb i)
  | n + 1, c => nextW q (addend X Y d c (slotIx n)) (wire d q n (srcOf d c))

/-- What device `c` leaves in its result's columns of a direction's sub-block. -/
def final (d : Bool) (q : Fin 2) (c : Dev nD) : FVec F S256x512 .f32 :=
  geluV (sumW q (addend X Y d c 6) (wire X Y d q 6 (srcOf d c)))

/-- What landed in a slot of device `c`. -/
abbrev arrived (d : Bool) (s : Fin 7) (q : Fin 2) (c : Dev nD) : Vec F S256x512 .bf16 := wire X Y d q s.val (srcOf d c)

end Values

/-! ## Cells -/

/-- A direction's semaphore: whether it counts landings, the direction, the step, the sub-block. -/
abbrev Key : Type := Bool × Bool × Fin 7 × Fin 2

/-- The semaphore of a key. -/
def keySem (k : Key) : DmaSem sig := cellOf (cond k.1 (rcvA k.2.1) (sndA k.2.1)) k.2.2.1 k.2.2.2
/-- The key of a semaphore. -/
def semKey (n : DmaSem sig) : Key :=
  (((n.val - 3) / 14 % 2 == 1), ((n.val - 3) / 28 == 0), ⟨(n.val - 3) % 14 / 2 % 7, Nat.mod_lt _ (by decide)⟩, ⟨(n.val - 3) % 2, Nat.mod_lt _ (by decide)⟩)

theorem semKey_keySem : ∀ k : Key, semKey (keySem k) = k := by decide +kernel
theorem keySem_ge : ∀ k : Key, 3 ≤ (keySem k).val := by decide +kernel

abbrev barCell (c : Dev nD) : GSem nD τ sig := ((c : Thread nD τ), .reg barrier0)
abbrev keyCell (k : Key) (c : Dev nD) : GSem nD τ sig := ((c : Thread nD τ), .dma (keySem k))
abbrev sndCell (d : Bool) (s : Fin 7) (q : Fin 2) (c : Dev nD) : GSem nD τ sig := keyCell (false, d, s, q) c
abbrev rcvCell (d : Bool) (s : Fin 7) (q : Fin 2) (c : Dev nD) : GSem nD τ sig := keyCell (true, d, s, q) c

/-- The units a transfer of a sub-block counts. -/
abbrev N : ℕ := (halfM true 0).view.dmaCredit
theorem N_pos : 0 < N := View.dmaCredit_pos _ (by decide)

theorem amount_half : ∀ (d : Bool) (q : Fin 2), (halfM d q).view.dmaCredit = N := by
  intro d q; cases d <;> rfl
theorem amount_slot : ∀ (d : Bool) (s : Fin 7) (q : Fin 2), (slotM d s q).view.dmaCredit = N := by
  intro d s q; cases d <;> rfl

/-! ## Points-tos -/

/-- Device `c`'s slot at `f`. -/
abbrev slotPts (d : Bool) (s : Fin 7) (q : Fin 2) (c : Dev nD) (f : Buf (Elt F) ((slotM d s q).view.loc (c : Thread nD τ))) : sProp 𝕄 :=
  (slotM d s q).view.loc (c : Thread nD τ) ↦[(slotM d s q).view.set]{fullShare} f
/-- Device `c`'s sub-block of its staging buffer at `f`. -/
abbrev halfPts (d : Bool) (q : Fin 2) (c : Dev nD) (f : Buf (Elt F) ((halfM d q).view.loc (c : Thread nD τ))) : sProp 𝕄 :=
  (halfM d q).view.loc (c : Thread nD τ) ↦[(halfM d q).view.set]{fullShare} f

/-- A slot at contents not chosen. -/
def slotAny (d : Bool) (s : Fin 7) (q : Fin 2) (c : Dev nD) : sProp 𝕄 := iprop(∃ f, slotPts d s q c f)
/-- A sub-block of a staging buffer at contents not chosen. -/
def halfAny (d : Bool) (q : Fin 2) (c : Dev nD) : sProp 𝕄 := iprop(∃ f, halfPts d q c f)
/-- A slot that reads `w`. -/
def slotAt (d : Bool) (s : Fin 7) (q : Fin 2) (c : Dev nD) (w : Vec F S256x512 .bf16) : sProp 𝕄 :=
  iprop(∃ f, ⌜(slotM d s q).view.read (Elt F) f = w⌝ ∗ slotPts d s q c f)
/-- A sub-block of a staging buffer that reads `w`. -/
def halfAt (d : Bool) (q : Fin 2) (c : Dev nD) (w : Vec F S256x512 .bf16) : sProp 𝕄 :=
  iprop(∃ f, ⌜(halfM d q).view.read (Elt F) f = w⌝ ∗ halfPts d q c f)

/-! ## The schedule -/

variable (X : Dev nD → Vec F S8x256x256 .bf16) (Y : Dev nD → Vec F S256x2048 .bf16)

/-- Paid to device `c`'s barrier cell for a direction, by the device that direction sends to: the slots the copies of `c`
    are to land in, and that round 0 of the cells they are to count on is reached. -/
def barPay (c : Dev nD) (d : Bool) : sProp 𝕄 :=
  bigSep Finset.univ fun sq : Fin 7 × Fin 2 =>
    iprop(slotAny d sq.1 sq.2 (tgt d c) ∗ reached ER (rcvCell d sq.1 sq.2 (tgt d c)) 0)

/-- Paid to a cell of device `c`: by a landing, the slot at what the sender sent; by a departure, the sub-block sent from. -/
def keyPay (k : Key) (c : Dev nD) : sProp 𝕄 :=
  cond k.1 (slotAt k.2.1 k.2.2.1 k.2.2.2 c (arrived X Y k.2.1 k.2.2.1 k.2.2.2 c)) (halfAny k.2.1 k.2.2.2 c)

instance keyPay_storable (k : Key) (c : Dev nD) : BI.Storable (upEmb : UEmb _ 𝕄) (keyPay X Y k c) := by
  unfold keyPay slotAt halfAny
  cases k.1 <;> (simp only [cond]; infer_instance)

instance barPay_storable (c : Dev nD) (d : Bool) : BI.Storable (upEmb : UEmb _ 𝕄) (barPay (F := F) c d) := by
  unfold barPay slotAny
  infer_instance

/-- Round 0: two duties on every barrier cell, one on every departure and landing cell. -/
def ringRd : Rounds.Schedule (GSem nD τ sig) Bool 𝕄 where
  duties g r := if r = 0 ∧ g.1.2 = .tc then
    (match g.2 with | .reg _ => Finset.univ | .dma n => if 3 ≤ n.val then {true} else ∅) else ∅
  unitless _ := False
  amount g _ _ := match g.2 with | .reg _ => 1 | .dma _ => N
  payload g _ d := match g.2 with | .reg _ => barPay g.1.1 d | .dma n => keyPay X Y (semKey n) g.1.1
  amount_pos g _ _ _ := by
    cases g.2 with
    | reg _ => exact Nat.one_pos
    | dma _ => exact N_pos

instance ringRd_payload_storable (g : GSem nD τ sig) (r : ℕ) (d : Bool) :
    BI.Storable (upEmb : UEmb _ 𝕄) ((ringRd X Y).payload g r d) := by
  obtain ⟨t, sm⟩ := g
  cases sm with
  | reg s => exact barPay_storable t.1 d
  | dma n => exact keyPay_storable X Y (semKey n) t.1

theorem duties_bar (c : Dev nD) : (ringRd X Y).duties (barCell c) 0 = Finset.univ := by
  dsimp only [ringRd]; exact if_pos ⟨rfl, rfl⟩
theorem duties_key (k : Key) (c : Dev nD) : (ringRd X Y).duties (keyCell k c) 0 = {true} := by
  dsimp only [ringRd]; rw [if_pos ⟨rfl, rfl⟩, if_pos (keySem_ge k)]
theorem duties_later (g : GSem nD τ sig) : ∀ r, 1 ≤ r → (ringRd X Y).duties g r = ∅ :=
  fun r hr => by dsimp only [ringRd]; rw [if_neg (fun h => by omega)]

theorem amount_bar (c : Dev nD) (d : Bool) : (ringRd X Y).amount (barCell c) 0 d = 1 := rfl
theorem amount_key (k : Key) (c : Dev nD) (d : Bool) : (ringRd X Y).amount (keyCell k c) 0 d = N := rfl

theorem expect_bar (c : Dev nD) : (ringRd X Y).expect (barCell c) 0 = 2 := by
  unfold Schedule.expect Schedule.amountOf; rw [duties_bar]; rfl
theorem expect_key (k : Key) (c : Dev nD) : (ringRd X Y).expect (keyCell k c) 0 = N := by
  unfold Schedule.expect Schedule.amountOf; rw [duties_key, Finset.sum_singleton, amount_key]

theorem payload_bar (c : Dev nD) (d : Bool) : (ringRd X Y).payload (barCell c) 0 d = barPay c d := rfl
theorem payload_key (k : Key) (c : Dev nD) (d : Bool) : (ringRd X Y).payload (keyCell k c) 0 d = keyPay X Y k c := by
  show keyPay X Y (semKey (keySem k)) c = _
  rw [semKey_keySem]

theorem rest_key (k : Key) (c : Dev nD) :
    bigSep ((ringRd X Y).duties (keyCell k c) 0 \ ∅) (fun u => (ringRd X Y).payload (keyCell k c) 0 u) = keyPay X Y k c := by
  rw [Finset.sdiff_empty, duties_key, bigSep_singleton, payload_key]
theorem rest_bar (c : Dev nD) :
    bigSep ((ringRd X Y).duties (barCell c) 0 \ ∅) (fun u => (ringRd X Y).payload (barCell c) 0 u)
      = iprop(barPay (F := F) c true ∗ barPay c false) := by
  rw [Finset.sdiff_empty, duties_bar, bigSep_eq_bigSepL_of_eq [true, false] (by decide) (by decide)]
  rfl

theorem close (κ : ℕ) (g : GSem nD τ sig) :
    iprop(cellInv ER (ringRd X Y) κ g ∗ atPos ER g (0 + 1) ∅ 0) ⊢ (|={Set.univ}=> semVal g 0 : sProp 𝕄) :=
  Rounds.cell_close ER (ringRd X Y) (Set.mem_univ κ) id (duties_later X Y g)

/-! ## Levels -/

/-- A TensorCore's cells carry the one index. -/
def L (g : GSem nD τ sig) : Finset Unit := if g.1.2 = .tc then {()} else ∅
/-- Departures at 0, the barrier at 1, the landings of step `s` at `2 + s`. -/
def lv (g : GSem nD τ sig) (_ : Unit) : ℕ :=
  match g.2 with
  | .reg _ => 1
  | .dma n => if 3 ≤ n.val ∧ (semKey n).1 = true then 2 + (semKey n).2.2.1.val else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (d : Bool) (s : Fin 7) (q : Fin 2) (c : Dev nD) : lv (rcvCell d s q c) () = 2 + s.val := by
  dsimp only [lv]; rw [semKey_keySem, if_pos ⟨keySem_ge _, rfl⟩]
theorem lv_snd (d : Bool) (s : Fin 7) (q : Fin 2) (c : Dev nD) : lv (sndCell d s q c) () = 0 := by
  dsimp only [lv]; rw [semKey_keySem, if_neg (fun h => by cases h.2)]
theorem lv_bar (c : Dev nD) : lv (barCell c) () = 1 := rfl

/-- All a tally owes is at TensorCore cells, at levels above `b`. -/
def Above (b : ℕ) (O : CellTallies nD τ sig Unit) : Prop := ∀ (g : GSem nD τ sig) (u : Unit), 0 < O g u → g.1.2 = .tc ∧ b < lv g u

theorem Above.zero (b : ℕ) : Above b 0 := fun _ _ h => absurd h (Nat.lt_irrefl 0)
theorem Above.add {b : ℕ} {O O' : CellTallies nD τ sig Unit} (h : Above b O) (h' : Above b O') : Above b (O + O') := fun g u hp => by
  rw [Pi.add_apply, Finsupp.add_apply] at hp
  rcases Nat.add_pos_iff_pos_or_pos.mp hp with hp | hp
  · exact h g u hp
  · exact h' g u hp
theorem Above.at {b n : ℕ} {g : GSem nD τ sig} (ht : g.1.2 = .tc) (hl : b < lv g ()) : Above b (tallyAt g () n) := fun g' u hp => by
  rw [tallyAt_apply] at hp
  by_cases h : g' = g ∧ u = ()
  · rw [h.1]; exact ⟨ht, hl⟩
  · rw [if_neg h] at hp; exact absurd hp (Nat.lt_irrefl 0)
theorem Above.sum {b : ℕ} {I : Type} (S : Finset I) (O : I → CellTallies nD τ sig Unit) (h : ∀ i ∈ S, Above b (O i)) : Above b (∑ i ∈ S, O i) := by
  classical
  induction S using Finset.induction_on with
  | empty => rw [Finset.sum_empty]; exact Above.zero b
  | insert i S hi ih =>
    rw [Finset.sum_insert hi]
    exact (h i (Finset.mem_insert_self ..)).add (ih fun j hj => h j (Finset.mem_insert_of_mem hj))
theorem Above.mono {b b' : ℕ} (hb : b' ≤ b) {O : CellTallies nD τ sig Unit} (h : Above b O) : Above b' O :=
  fun g u hp => ⟨(h g u hp).1, Nat.lt_of_le_of_lt hb (h g u hp).2⟩

theorem mayWait {c : Dev nD} {sm : SemLoc sig} {b : ℕ} {O : CellTallies nD τ sig Unit} (hl : lv ((c : Thread nD τ), sm) () ≤ b)
    (h : Above b O) : (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hl)
    (fun g u hg => (h g u hg).2)

end Cert.KernelIdeal.Ring

end
-- ==== Proof.Turn.lean ====
/-
  One sub-block's turn: the waits, the load of what landed, the store of the next value, the send.
-/
module

public import proofs.«01_k».proof.Proof.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S8x256x256 .bf16) (Y : Dev nD → Vec F S256x2048 .bf16)

abbrev 𝒱₀ : Variants := Variants.none

/-! ## The protocol's names -/

/-- Every cell's invariant, at the names the launch allocated them at. -/
def recs (K : GSem nD τ sig → ℕ) : sProp 𝕄 :=
  iprop((bigSep Finset.univ fun c : Dev nD => cellInv ER (ringRd X Y) (K (barCell c)) (barCell c))
    ∗ bigSep Finset.univ fun kc : Key × Dev nD => cellInv ER (ringRd X Y) (K (keyCell kc.1 kc.2)) (keyCell kc.1 kc.2))

instance recs_persistent (K : GSem nD τ sig → ℕ) : BI.Persistent (recs X Y K) := by unfold recs; infer_instance

theorem recs_bar (K : GSem nD τ sig → ℕ) (c : Dev nD) :
    (recs X Y K : sProp 𝕄) ⊢ cellInv ER (ringRd X Y) (K (barCell c)) (barCell c) := by
  unfold recs
  exact sep_elim_left.trans (bigSep_elim (Finset.mem_univ c))

theorem recs_key (K : GSem nD τ sig → ℕ) (k : Key) (c : Dev nD) :
    (recs X Y K : sProp 𝕄) ⊢ cellInv ER (ringRd X Y) (K (keyCell k c)) (keyCell k c) := by
  unfold recs
  exact sep_elim_right.trans (bigSep_elim
    (Φ := fun kc : Key × Dev nD => (cellInv ER (ringRd X Y) (K (keyCell kc.1 kc.2)) (keyCell kc.1 kc.2) : sProp 𝕄))
    (Finset.mem_univ (k, c)))

/-! ## What a device holds for a step of a lane -/

/-- To wait with: its positions, and the credit of the landing. -/
def waits (d : Bool) (q : Fin 2) (c : Dev nD) (s : Fin 7) : sProp 𝕄 :=
  iprop(atPos ER (sndCell d s q c) 0 ∅ 0 ∗ atPos ER (rcvCell d s q c) 0 ∅ 0 ∗ cred (tallyAt (rcvCell d s q c) () N))

/-- To send with: the two duties' tokens, and the neighbour's slot. -/
def sends (d : Bool) (q : Fin 2) (c : Dev nD) (s : Fin 7) : sProp 𝕄 :=
  iprop((dutyTok ER (sndCell d s q c) 0 true ∗ reached ER (sndCell d s q c) 0 ∗ dutyTok ER (rcvCell d s q (tgt d c)) 0 true)
    ∗ slotAny d s q (tgt d c) ∗ reached ER (rcvCell d s q (tgt d c)) 0)

/-- Once waited: the positions a round on, and the own slot back. -/
def gone (d : Bool) (q : Fin 2) (c : Dev nD) (s : Fin 7) : sProp 𝕄 :=
  iprop(atPos ER (sndCell d s q c) (0 + 1) ∅ 0 ∗ atPos ER (rcvCell d s q c) (0 + 1) ∅ 0 ∗ slotAny d s q c)

/-! ## The single operations -/

/-- A send pays the neighbour's landing duty with the value, the own departure duty with the sub-block. -/
theorem send_run (K : GSem nD τ sig → ℕ) (c : Dev nD) (d : Bool) (s : Fin 7) (q : Fin 2) (O : CellTallies nD τ sig Unit)
    (W : Waits sig Unit) (Kt : PUnit → sProp 𝕄) :
    iprop(recs X Y K ∗ halfAt d q c (wire X Y d q s.val c) ∗ sends d q c s
        ∗ owes (c : Thread nD τ) (O + tallyAt (rcvCell d s q (tgt d c)) () N) W
        ∗ (cred (tallyAt (sndCell d s q c) () N) -∗ owes (c : Thread nD τ) O W -∗ Kt ⟨⟩))
      ⊢ wp frame (wpE (defs₀ (F := F)) 𝒱₀ c none) Set.univ (send (F := F) c d s q) Kt := by
  unfold send sends halfAt slotAny
  simp only [Prog.lift]
  iintro ⟨#HR, ⟨%fs, %hfs, Hh⟩, ⟨⟨Ht1, #Hr1, Ht2⟩, ⟨%fd, Hd⟩, #Hr2⟩, HO, Hk⟩
  ihave #HI1 := (recs_key X Y K (false, d, s, q) c) $$ HR
  ihave #HI2 := (recs_key X Y K (true, d, s, q) (tgt d c)) $$ HR
  iapply (Rounds.wp_send_pointsTo 𝒱₀ ER (ringRd X Y) (c : Thread nD τ) none (c' := (tgt d c : Thread nD τ)) (src := halfM d q)
      (dst := slotM d s q) (sS := .dma (keySem (false, d, s, q))) (sem := .dma (keySem (true, d, s, q))) (q := fullShare) (fs := fs)
      (κ₁ := K (sndCell d s q c)) (κ₂ := K (rcvCell d s q (tgt d c))) (r₁ := 0) (r₂ := 0) (d₁ := true) (d₂ := true) (fd := fd)
      (by rw [duties_key]; exact Finset.mem_singleton_self _) (by rw [duties_key]; exact Finset.mem_singleton_self _)
      () () N (amount_slot d s q) (amount_key X Y _ c true) (amount_key X Y _ (tgt d c) true) O rfl (W := W)
      (by rw [payload_key]; unfold keyPay halfAny; simp only [cond]; iintro H; iexists fs; iexact H)
      (by
        rw [payload_key]; unfold keyPay slotAt; simp only [cond]
        iintro H; iexists _
        isplitr; swap; · iexact H
        ipureintro
        rw [View.read_write_univ, hfs, arrived, srcOf_tgt])) $$ [Hh Hd HO Ht1 Ht2]
  · isplitr; · iexact HI1
    isplitr; · iexact HI2
    isplitl [Hh]; · iexact Hh
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk $$ Hc
  iexact HO

/-- The two waits of a step bring back the sub-block sent from and the own slot at what landed. -/
theorem await_run (K : GSem nD τ sig → ℕ) (c : Dev nD) (d : Bool) (s : Fin 7) (q : Fin 2) (O : CellTallies nD τ sig Unit)
    (hO : Above (2 + s.val) O) (W : Waits sig Unit) (Kt : PUnit → sProp 𝕄) :
    iprop(recs X Y K ∗ levAts L lv ∗ waits d q c s ∗ cred (tallyAt (sndCell d s q c) () N) ∗ owes (c : Thread nD τ) O W
        ∗ (atPos ER (sndCell d s q c) (0 + 1) ∅ 0 -∗ atPos ER (rcvCell d s q c) (0 + 1) ∅ 0 -∗ halfAny d q c
            -∗ slotAt d s q c (arrived X Y d s q c) -∗ (∃ W, owes (c : Thread nD τ) O W) -∗ Kt ⟨⟩))
      ⊢ wp frame (wpE (defs₀ (F := F)) 𝒱₀ c none) Set.univ (await (F := F) d s q) Kt := by
  unfold await waits
  simp only [Prog.lift, Prog.bind_op, Prog.bind_ret]
  iintro ⟨#HR, #Hlev, ⟨Ha1, Ha2, Hc2⟩, Hc1, HO, Hk⟩
  ihave #HI1 := (recs_key X Y K (false, d, s, q) c) $$ HR
  ihave #HI2 := (recs_key X Y K (true, d, s, q) c) $$ HR
  iapply (Rounds.wp_wait_rest_token 𝒱₀ ER (ringRd X Y) (c : Thread nD τ) none (sm := .dma (keySem (false, d, s, q))) (κ := K (sndCell d s q c))
      (wpE_waitDma2_eq 𝒱₀ (c : Thread nD τ) none Set.univ) (Set.mem_univ _) () (O := O) (W := W) (R := 0) (m := 0) (T := ∅)
      ((Nat.zero_add _).trans ((amount_half d q).trans (expect_key X Y (false, d, s, q) c).symm))) $$ [Hc1 HO Ha1]
  · isplitr; · iexact HI1
    isplitl [Hc1]; · rw [amount_half]; iexact Hc1
    isplitl [HO]; · iexact HO
    isplitr; · iapply (mayWait (b := 2 + s.val) (by rw [lv_snd]; exact Nat.zero_le _) hO); iexact Hlev
    iexact Ha1
  iintro ⟨HO, Ha1, -, Hp⟩
  ihave Hh := (Entails.of_eq (rest_key X Y (false, d, s, q) c)) $$ Hp
  iapply (Rounds.wp_wait_rest_token 𝒱₀ ER (ringRd X Y) (c : Thread nD τ) none (sm := .dma (keySem (true, d, s, q))) (κ := K (rcvCell d s q c))
      (wpE_waitDma2_eq 𝒱₀ (c : Thread nD τ) none Set.univ) (Set.mem_univ _) () (O := O) (R := 0) (m := 0) (T := ∅)
      ((Nat.zero_add _).trans ((amount_slot d s q).trans (expect_key X Y (true, d, s, q) c).symm))) $$ [Hc2 HO Ha2]
  · isplitr; · iexact HI2
    isplitl [Hc2]; · rw [amount_slot]; iexact Hc2
    isplitl [HO]; · iexact HO
    isplitr; · iapply (mayWait (b := 2 + s.val) (by rw [lv_rcv]) hO); iexact Hlev
    iexact Ha2
  iintro ⟨HO, Ha2, -, Hp⟩
  ihave Hs := (Entails.of_eq (rest_key X Y (true, d, s, q) c)) $$ Hp
  rw [wp_ret]
  imodintro
  unfold keyPay
  simp only [cond]
  iapply Hk $$ Ha1 Ha2 Hh Hs
  iexists _; iexact HO

/-- A load of the own slot reads, as a matrix, what the slot reads. -/
theorem landed_run (c : Dev nD) (d : Bool) (s : Fin 7) (q : Fin 2) (w : Vec F S256x512 .bf16)
    {α : Type} (k : Vec F S1x256x512 .bf16 → TcProg F α) (Kt : α → sProp 𝕄) :
    iprop(slotAt d s q c w
        ∗ (∀ v, ⌜(shapeCast S256x512 v shapeCasts_S1x256x512_S256x512 : Vec F S256x512 .bf16) = w⌝ -∗ slotAny d s q c
            -∗ wp frame (wpE (defs₀ (F := F)) 𝒱₀ c none) Set.univ (k v) Kt))
      ⊢ wp frame (wpE (defs₀ (F := F)) 𝒱₀ c none) Set.univ (landed (F := F) d s q >>= k) Kt := by
  unfold landed slotAt slotAny
  simp only [Prog.lift, Prog.bind_op, Prog.bind_ret]
  iintro ⟨⟨%f, %hf, Hs⟩, Hk⟩
  iapply (wp_load_rect 𝒱₀ (c : Thread nD τ) none Set.univ (m := rcvM d) (r := slotR s q) (S := (slotM d s q).view.set) (f := f)
    (Finset.subset_of_eq (View.set_reshape (slot3M d s q).view _).symm)) $$ Hs
  iintro Hs
  iapply Hk
  · ipureintro; exact hf
  iexists f; iexact Hs

/-- A turn that sends on. -/
theorem turn_run (K : GSem nD τ sig → ℕ) (c : Dev nD) (d : Bool) (s : Fin 7) (hs : s.val + 1 < 7) (q : Fin 2)
    (O : CellTallies nD τ sig Unit) (hO : Above (2 + s.val) O) (W : Waits sig Unit) (Kt : PUnit → sProp 𝕄) :
    iprop(recs X Y K ∗ levAts L lv ∗ waits d q c s ∗ cred (tallyAt (sndCell d s q c) () N) ∗ sends d q c ⟨s.val + 1, hs⟩
        ∗ owes (c : Thread nD τ) (O + tallyAt (rcvCell d ⟨s.val + 1, hs⟩ q (tgt d c)) () N) W
        ∗ (gone d q c s -∗ cred (tallyAt (sndCell d ⟨s.val + 1, hs⟩ q c) () N) -∗ (∃ W, owes (c : Thread nD τ) O W) -∗ Kt ⟨⟩))
      ⊢ wp frame (wpE (defs₀ (F := F)) 𝒱₀ c none) Set.univ (turn (F := F) c s hs q d (addend X Y d c s)) Kt := by
  unfold turn
  rw [wp_bind]
  iintro ⟨#HR, #Hlev, Hw, Hc, Hs, HO, Hk⟩
  iapply (await_run X Y K c d s q (O + tallyAt (rcvCell d ⟨s.val + 1, hs⟩ q (tgt d c)) () N)
    (hO.add (Above.at rfl (by rw [lv_rcv]; show 2 + s.val < 2 + (s.val + 1); omega))) W)
  isplitr; · iexact HR
  isplitr; · iexact Hlev
  isplitl [Hw]; · iexact Hw
  isplitl [Hc]; · iexact Hc
  isplitl [HO]; · iexact HO
  unfold halfAny
  iintro Ha1 Ha2 ⟨%g, Hh⟩ Hsl ⟨%W', HO⟩
  iapply (landed_run c d s q (arrived X Y d s q c))
  isplitl [Hsl]; · iexact Hsl
  iintro %v %hv Hsl
  simp only [Prog.lift, Prog.bind_op, Prog.bind_ret]
  iapply (wp_load_rect 𝒱₀ (c : Thread nD τ) none Set.univ (m := stgM d) (r := halfR q) (S := (halfM d q).view.set) (f := g)
    (Finset.Subset.refl _)) $$ Hh
  iintro Hh
  iapply (wp_store 𝒱₀ (c : Thread nD τ) none Set.univ (m := stgM d) (r := halfR q) (S := (halfM d q).view.set) (f := g)
    (Finset.Subset.refl _)) $$ Hh
  iintro Hh
  iapply (send_run X Y K c d ⟨s.val + 1, hs⟩ q O W')
  isplitr; · iexact HR
  isplitl [Hh]
  · unfold halfAt
    iexists _
    isplitr; swap; · iexact Hh
    ipureintro
    refine (View.read_write_univ (v := (halfM d q).view) g (nextV q (addend X Y d c s) v)).trans ?_
    show nextW q (addend X Y d c s) (shapeCast S256x512 v shapeCasts_S1x256x512_S256x512) = wire X Y d q (s.val + 1) c
    rw [hv, wire, slotIx_of_lt s.isLt]
  isplitl [Hs]; · iexact Hs
  isplitl [HO]; · iexact HO
  iintro Hc HO
  iapply Hk $$ [Ha1 Ha2 Hsl] Hc
  · unfold gone
    isplitl [Ha1]; · iexact Ha1
    isplitl [Ha2]; · iexact Ha2
    iexact Hsl
  iexists W'; iexact HO

/-- The last turn, which leaves the result's columns of the sub-block. -/
theorem lastTurn_run (K : GSem nD τ sig → ℕ) (c : Dev nD) (ao : Memref sig .tc .vmem S256x2048 .f32) (d : Bool) (q : Fin 2)
    (O : CellTallies nD τ sig Unit) (hO : Above 8 O) (W : Waits sig Unit) (f : Buf (Elt F) (ao.view.loc (c : Thread nD τ)))
    (Kt : PUnit → sProp 𝕄) :
    iprop(recs X Y K ∗ levAts L lv ∗ waits d q c 6 ∗ cred (tallyAt (sndCell d 6 q c) () N)
        ∗ (ao.view.loc (c : Thread nD τ) ↦[ao.view.set]{fullShare} f) ∗ owes (c : Thread nD τ) O W
        ∗ (gone d q c 6 -∗ halfAny d q c
            -∗ (ao.view.loc (c : Thread nD τ) ↦[ao.view.set]{fullShare} (ao.access (outR d q)).write (Elt F) f (final X Y d q c) Finset.univ)
            -∗ (∃ W, owes (c : Thread nD τ) O W) -∗ Kt ⟨⟩))
      ⊢ wp frame (wpE (defs₀ (F := F)) 𝒱₀ c none) Set.univ (lastTurn (F := F) ao q d (addend X Y d c 6)) Kt := by
  unfold lastTurn
  rw [wp_bind]
  iintro ⟨#HR, #Hlev, Hw, Hc, Ho, HO, Hk⟩
  iapply (await_run X Y K c d 6 q O hO W)
  isplitr; · iexact HR
  isplitr; · iexact Hlev
  isplitl [Hw]; · iexact Hw
  isplitl [Hc]; · iexact Hc
  isplitl [HO]; · iexact HO
  iintro Ha1 Ha2 Hh Hsl HO
  iapply (landed_run c d 6 q (arrived X Y d 6 q c))
  isplitl [Hsl]; · iexact Hsl
  iintro %v %hv Hsl
  simp only [Prog.lift, Prog.bind_op, Prog.bind_ret]
  iapply (wp_load_rect 𝒱₀ (c : Thread nD τ) none Set.univ (m := ao) (r := outR d q) (S := ao.view.set) (f := f)
    (View.set_slice_subset _ _)) $$ Ho
  iintro Ho
  iapply (wp_store 𝒱₀ (c : Thread nD τ) none Set.univ (m := ao) (r := outR d q) (S := ao.view.set) (f := f)
    (View.set_slice_subset _ _)) $$ Ho
  iintro Ho
  rw [wp_ret]
  imodintro
  iapply Hk $$ [Ha1 Ha2 Hsl] Hh [Ho] HO
  · unfold gone
    isplitl [Ha1]; · iexact Ha1
    isplitl [Ha2]; · iexact Ha2
    iexact Hsl
  rw [show geluV (sumV q (addend X Y d c 6) v) = final X Y d q c from by
    unfold final; rw [← show _ = wire X Y d q 6 (srcOf d c) from hv]; rfl]
  iexact Ho

/-- The product of a step. -/
theorem product_run (c : Dev nD) (ax : Memref sig .tc .vmem S8x256x256 .bf16) (aw : Memref sig .tc .vmem S256x2048 .bf16) (d : Bool)
    (s : Fin 7) (fx : Buf (Elt F) (ax.view.loc (c : Thread nD τ))) (fw : Buf (Elt F) (aw.view.loc (c : Thread nD τ)))
    (hx : ax.view.read (Elt F) fx = X c) (hw : aw.view.read (Elt F) fw = Y c) {α : Type} (k : FVec F S256x1024 .f32 → TcProg F α)
    (Kt : α → sProp 𝕄) :
    iprop((ax.view.loc (c : Thread nD τ) ↦[ax.view.set]{fullShare} fx) ∗ (aw.view.loc (c : Thread nD τ) ↦[aw.view.set]{fullShare} fw)
        ∗ ((ax.view.loc (c : Thread nD τ) ↦[ax.view.set]{fullShare} fx) -∗ (aw.view.loc (c : Thread nD τ) ↦[aw.view.set]{fullShare} fw)
            -∗ wp frame (wpE (defs₀ (F := F)) 𝒱₀ c none) Set.univ (k (addend X Y d c s)) Kt))
      ⊢ wp frame (wpE (defs₀ (F := F)) 𝒱₀ c none) Set.univ (product (F := F) ax aw c d s >>= k) Kt := by
  unfold product
  simp only [Prog.lift, Prog.bind_op, Prog.bind_ret, Prog.pure_eq_ret]
  iintro ⟨Hx, Hw, Hk⟩
  iapply (wp_load_rect 𝒱₀ (c : Thread nD τ) none Set.univ (m := ax) (r := xStepR d s c) (S := ax.view.set) (f := fx)
    (View.set_slice_subset _ _)) $$ Hx
  iintro Hx
  iapply (wp_load_rect 𝒱₀ (c : Thread nD τ) none Set.univ (m := aw) (r := wR d) (S := aw.view.set) (f := fw)
    (View.set_slice_subset _ _)) $$ Hw
  iintro Hw
  rw [show part ((ax.access (xStepR d s c)).read (Elt F) fx) ((aw.access (wR d)).read (Elt F) fw) = addend X Y d c s from by
    unfold addend; rw [← hx, ← hw]; rfl]
  iapply Hk $$ Hx Hw

/-- A staging buffer's first value. -/
theorem fill_run (c : Dev nD) (ax : Memref sig .tc .vmem S8x256x256 .bf16) (aw : Memref sig .tc .vmem S256x2048 .bf16) (d : Bool)
    (fx : Buf (Elt F) (ax.view.loc (c : Thread nD τ))) (fw : Buf (Elt F) (aw.view.loc (c : Thread nD τ)))
    (hx : ax.view.read (Elt F) fx = X c) (hw : aw.view.read (Elt F) fw = Y c) (g : Buf (Elt F) ((stgM d).view.loc (c : Thread nD τ)))
    (Kt : PUnit → sProp 𝕄) :
    iprop((ax.view.loc (c : Thread nD τ) ↦[ax.view.set]{fullShare} fx) ∗ (aw.view.loc (c : Thread nD τ) ↦[aw.view.set]{fullShare} fw)
        ∗ ((stgM d).view.loc (c : Thread nD τ) ↦[(stgM d).view.set]{fullShare} g)
        ∗ ((ax.view.loc (c : Thread nD τ) ↦[ax.view.set]{fullShare} fx) -∗ (aw.view.loc (c : Thread nD τ) ↦[aw.view.set]{fullShare} fw)
            -∗ (∃ g', ⌜(stgM d).view.read (Elt F) g' = first X Y d c⌝ ∗ ((stgM d).view.loc (c : Thread nD τ) ↦[(stgM d).view.set]{fullShare} g'))
            -∗ Kt ⟨⟩))
      ⊢ wp frame (wpE (defs₀ (F := F)) 𝒱₀ c none) Set.univ (fill (F := F) ax aw c d) Kt := by
  unfold fill
  simp only [Prog.lift, Prog.bind_op, Prog.bind_ret]
  iintro ⟨Hx, Hw, Hg, Hk⟩
  iapply (wp_load_rect 𝒱₀ (c : Thread nD τ) none Set.univ (m := ax) (r := xFirstR d c) (S := ax.view.set) (f := fx)
    (View.set_slice_subset _ _)) $$ Hx
  iintro Hx
  iapply (wp_load_rect 𝒱₀ (c : Thread nD τ) none Set.univ (m := aw) (r := wR d) (S := aw.view.set) (f := fw)
    (View.set_slice_subset _ _)) $$ Hw
  iintro Hw
  iapply (wp_load_rect 𝒱₀ (c : Thread nD τ) none Set.univ (m := stgM d)
    (r := Rect.unit (s := S256x1024) ![0, 0] S256x1024.size inb_S256x1024_S256x1024_0_0) (S := (stgM d).view.set) (f := g)
    (View.set_slice_subset _ _)) $$ Hg
  iintro Hg
  iapply (wp_store 𝒱₀ (c : Thread nD τ) none Set.univ (m := stgM d)
    (r := Rect.unit (s := S256x1024) ![0, 0] S256x1024.size inb_S256x1024_S256x1024_0_0) (S := (stgM d).view.set) (f := g)
    (View.set_slice_subset _ _)) $$ Hg
  iintro Hg
  rw [wp_ret]
  imodintro
  iapply Hk $$ Hx Hw
  iexists _
  isplitr; swap; · iexact Hg
  ipureintro
  have e : ∀ j : S256x1024.Idx,
      (Rect.unit (s := S256x1024) ![0, 0] S256x1024.size inb_S256x1024_S256x1024_0_0).emb j = j := fun j => funext fun a => Fin.ext (by
    have h0 : (![0, 0] : Fin 2 → Nat) a = 0 := by fin_cases a <;> rfl
    show (![0, 0] : Fin 2 → Nat) a + 1 * (j a).val = (j a).val
    rw [h0]; omega)
  have hr := View.read_write_univ (v := (stgM d).access (Rect.unit (s := S256x1024) ![0, 0] S256x1024.size inb_S256x1024_S256x1024_0_0)) g
    (firstV ((ax.access (xFirstR d c)).read (Elt F) fx) ((aw.access (wR d)).read (Elt F) fw))
  have hv : firstV ((ax.access (xFirstR d c)).read (Elt F) fx) ((aw.access (wR d)).read (Elt F) fw) = first X Y d c := by
    unfold first; rw [← hx, ← hw]; rfl
  rw [hv] at hr ⊢
  funext j
  rw [← congrFun hr j]
  refine (congrArg (fun i => (stgM d).view.read (Elt F) _ i) (e j).symm)

end Cert.KernelIdeal.Ring

end
-- ==== Proof.Lanes.lean ====
/-
  A lane is a direction's sub-block: its seven copies one after another. The steps of the kernel over the four lanes.
-/
module

public import proofs.«01_k».proof.Proof.Turn

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S8x256x256 .bf16) (Y : Dev nD → Vec F S256x2048 .bf16)

/-! ## A lane's state -/

/-- Sent and not yet waited for. -/
def flying (d : Bool) (q : Fin 2) (c : Dev nD) (s : Fin 7) : sProp 𝕄 :=
  iprop(waits d q c s ∗ cred (tallyAt (sndCell d s q c) () N))
/-- Not yet sent. -/
def idle (d : Bool) (q : Fin 2) (c : Dev nD) (s : Fin 7) : sProp 𝕄 := iprop(waits d q c s ∗ sends d q c s)

/-- What a step of a lane has when `n` copies have been started. -/
def stepAt (d : Bool) (q : Fin 2) (c : Dev nD) (n : ℕ) (s : Fin 7) : sProp 𝕄 :=
  if s.val + 1 < n then gone d q c s else if s.val + 1 = n then flying d q c s else idle d q c s

/-- A lane when `n` copies have been started, all but the last of them waited for. -/
def lane (d : Bool) (q : Fin 2) (c : Dev nD) (n : ℕ) : sProp 𝕄 := bigSep Finset.univ (stepAt d q c n)

theorem lane_zero (d : Bool) (q : Fin 2) (c : Dev nD) : (lane d q c 0 : sProp 𝕄) = bigSep Finset.univ (idle d q c) := by
  unfold lane
  exact bigSep_congr fun s _ => by unfold stepAt; rw [if_neg (by omega), if_neg (by omega)]

theorem lane_done (d : Bool) (q : Fin 2) (c : Dev nD) : (lane d q c 8 : sProp 𝕄) = bigSep Finset.univ (gone d q c) := by
  unfold lane
  exact bigSep_congr fun s _ => by unfold stepAt; rw [if_pos (by have := s.isLt; omega)]

/-- The first copy's start. -/
theorem lane_start (d : Bool) (q : Fin 2) (c : Dev nD) :
    (lane d q c 0 : sProp 𝕄) ⊢ iprop(idle d q c 0 ∗ (flying d q c 0 -∗ lane d q c 1)) := by
  unfold lane
  rw [bigSep_univ_at (stepAt d q c 0) 0, bigSep_univ_at (stepAt d q c 1) 0,
    bigSep_congr (s := Finset.univ.erase 0) (Φ := stepAt d q c 0) (Ψ := stepAt d q c 1) fun s hs => by
      have : s.val ≠ 0 := fun h => Finset.ne_of_mem_erase hs (Fin.ext h)
      unfold stepAt
      rw [if_neg (by omega), if_neg (by omega), if_neg (by omega), if_neg (by omega)]]
  rw [show (stepAt d q c 0 0 : sProp 𝕄) = idle d q c 0 from rfl, show (stepAt d q c 1 0 : sProp 𝕄) = flying d q c 0 from rfl]
  iintro ⟨H0, Hr⟩
  isplitl [H0]; · iexact H0
  iintro H
  isplitl [H] <;> iassumption

/-- One summand of a set, beside the rest. -/
theorem bigSep_take {I : Type} [DecidableEq I] {s : Finset I} {i : I} (h : i ∈ s) {Φ : I → sProp 𝕄} :
    bigSep s Φ = iprop(Φ i ∗ bigSep (s.erase i) Φ) := bigSep_erase h

/-- The next copy's start. -/
theorem lane_next (d : Bool) (q : Fin 2) (c : Dev nD) (s : Fin 7) (hs : s.val + 1 < 7) :
    (lane d q c (s.val + 1) : sProp 𝕄)
      ⊢ iprop(flying d q c s ∗ idle d q c ⟨s.val + 1, hs⟩ ∗ (gone d q c s -∗ flying d q c ⟨s.val + 1, hs⟩ -∗ lane d q c (s.val + 2))) := by
  have hm : (⟨s.val + 1, hs⟩ : Fin 7) ∈ Finset.univ.erase s :=
    Finset.mem_erase.mpr ⟨fun h => by have := congrArg Fin.val h; simp only at this; omega, Finset.mem_univ _⟩
  unfold lane
  rw [bigSep_univ_at (stepAt d q c (s.val + 1)) s, bigSep_univ_at (stepAt d q c (s.val + 2)) s,
    bigSep_take hm (Φ := stepAt d q c (s.val + 1)), bigSep_take hm (Φ := stepAt d q c (s.val + 2)),
    bigSep_congr (s := (Finset.univ.erase s).erase ⟨s.val + 1, hs⟩) (Φ := stepAt d q c (s.val + 1)) (Ψ := stepAt d q c (s.val + 2)) fun j hj => by
      have h1 : j.val ≠ s.val + 1 := fun h => Finset.ne_of_mem_erase hj (Fin.ext h)
      have h2 : j.val ≠ s.val := fun h => Finset.ne_of_mem_erase (Finset.mem_of_mem_erase hj) (Fin.ext h)
      unfold stepAt
      by_cases hl : j.val + 1 < s.val + 1
      · rw [if_pos hl, if_pos (by omega)]
      · rw [if_neg hl, if_neg (by omega), if_neg (by omega), if_neg (by omega)]]
  rw [show (stepAt d q c (s.val + 1) s : sProp 𝕄) = flying d q c s from by unfold stepAt; rw [if_neg (by omega), if_pos rfl],
    show (stepAt d q c (s.val + 1) ⟨s.val + 1, hs⟩ : sProp 𝕄) = idle d q c ⟨s.val + 1, hs⟩ from by
      unfold stepAt; rw [if_neg (by simp only; omega), if_neg (by simp only; omega)],
    show (stepAt d q c (s.val + 2) s : sProp 𝕄) = gone d q c s from by unfold stepAt; rw [if_pos (by omega)],
    show (stepAt d q c (s.val + 2) ⟨s.val + 1, hs⟩ : sProp 𝕄) = flying d q c ⟨s.val + 1, hs⟩ from by
      unfold stepAt; rw [if_neg (by simp only; omega), if_pos rfl]]
  iintro ⟨H0, H1, Hr⟩
  isplitl [H0]; · iexact H0
  isplitl [H1]; · iexact H1
  iintro Hg Hf
  isplitl [Hg]; · iexact Hg
  isplitl [Hf] <;> iassumption

/-- The last copy's end. -/
theorem lane_end (d : Bool) (q : Fin 2) (c : Dev nD) :
    (lane d q c 7 : sProp 𝕄) ⊢ iprop(flying d q c 6 ∗ (gone d q c 6 -∗ lane d q c 8)) := by
  unfold lane
  rw [bigSep_univ_at (stepAt d q c 7) 6, bigSep_univ_at (stepAt d q c 8) 6,
    bigSep_congr (s := Finset.univ.erase 6) (Φ := stepAt d q c 7) (Ψ := stepAt d q c 8) fun s hs => by
      have : s.val ≠ 6 := fun h => Finset.ne_of_mem_erase hs (Fin.ext h)
      have := s.isLt
      unfold stepAt
      rw [if_pos (by omega), if_pos (by omega)]]
  rw [show (stepAt d q c 7 6 : sProp 𝕄) = flying d q c 6 from rfl, show (stepAt d q c 8 6 : sProp 𝕄) = gone d q c 6 from rfl]
  iintro ⟨H0, Hr⟩
  isplitl [H0]; · iexact H0
  iintro H
  isplitl [H] <;> iassumption

/-! ## What a device owes -/

/-- The landings a lane owes the neighbour when `n` copies have been started. -/
def due (d : Bool) (q : Fin 2) (c : Dev nD) (n : ℕ) : CellTallies nD τ sig Unit :=
  ∑ s ∈ Finset.univ.filter (fun s : Fin 7 => n ≤ s.val), tallyAt (rcvCell d s q (tgt d c)) () N

theorem due_step (d : Bool) (q : Fin 2) (c : Dev nD) (n : ℕ) (h : n < 7) :
    due d q c n = due d q c (n + 1) + tallyAt (rcvCell d ⟨n, h⟩ q (tgt d c)) () N := by
  unfold due
  have e : Finset.univ.filter (fun s : Fin 7 => n ≤ s.val) = insert ⟨n, h⟩ (Finset.univ.filter fun s : Fin 7 => n + 1 ≤ s.val) := by
    ext s
    simp only [Finset.mem_filter, Finset.mem_univ, true_and, Finset.mem_insert, Fin.ext_iff]
    omega
  rw [e, Finset.sum_insert (by simp), add_comm]

theorem due_end (d : Bool) (q : Fin 2) (c : Dev nD) : due d q c 7 = 0 := by
  unfold due
  rw [Finset.filter_false_of_mem (fun s _ => by have := s.isLt; omega), Finset.sum_empty]

theorem due_above (d : Bool) (q : Fin 2) (c : Dev nD) (n : ℕ) : Above (n + 1) (due d q c n) :=
  Above.sum _ _ fun s hs => Above.at rfl (by rw [lv_rcv]; have := (Finset.mem_filter.mp hs).2; omega)

/-! ## The four lanes -/

def lanes (c : Dev nD) (n : ℕ) : sProp 𝕄 :=
  iprop(lane true 0 c n ∗ lane false 0 c n ∗ lane true 1 c n ∗ lane false 1 c n)

section Sums
variable {A : Type} [AddCommMonoid A] (a b c d : A)
theorem sum4_1 : a + b + c + d = b + c + d + a := by rw [add_comm (b + c + d) a, ← add_assoc, ← add_assoc]
theorem sum4_2 : a + b + c + d = a + c + d + b := by simp only [add_comm, add_left_comm, add_assoc]
theorem sum4_3 : a + b + c + d = a + b + d + c := add_right_comm ..
end Sums

/-- What the four lanes owe, each at its own count of copies. -/
def dues4 (c : Dev nD) (n₁ n₂ n₃ n₄ : ℕ) : CellTallies nD τ sig Unit :=
  due true 0 c n₁ + due false 0 c n₂ + due true 1 c n₃ + due false 1 c n₄

/-- What the four lanes owe. -/
abbrev dues (c : Dev nD) (n : ℕ) : CellTallies nD τ sig Unit := dues4 c n n n n

theorem dues_end (c : Dev nD) : dues c 7 = 0 := by unfold dues dues4; simp only [due_end, add_zero]

theorem dues_above (c : Dev nD) (n : ℕ) : Above (n + 1) (dues c n) :=
  (((due_above _ _ c n).add (due_above _ _ c n)).add (due_above _ _ c n)).add (due_above _ _ c n)

/-- A first copy, among what else is owed. -/
theorem start_run (K : GSem nD τ sig → ℕ) (c : Dev nD) (d : Bool) (q : Fin 2) (O T T' : CellTallies nD τ sig Unit)
    (hT : T = O + due d q c 0) (hT' : O + due d q c 1 = T') (W : Waits sig Unit) (Kt : PUnit → sProp 𝕄) :
    iprop(recs X Y K ∗ halfAt d q c (wire X Y d q 0 c) ∗ lane d q c 0 ∗ owes (c : Thread nD τ) T W
        ∗ (lane d q c 1 -∗ owes (c : Thread nD τ) T' W -∗ Kt ⟨⟩))
      ⊢ wp frame (wpE (defs₀ (F := F)) 𝒱₀ c none) Set.univ (send (F := F) c d 0 q) Kt := by
  subst hT' hT
  rw [due_step d q c 0 (by decide), ← add_assoc]
  iintro ⟨#HR, Hh, Hl, HO, Hk⟩
  ihave Hl' := (lane_start d q c) $$ Hl
  unfold idle flying
  icases Hl' with ⟨⟨Hw, Hs⟩, Hback⟩
  iapply (send_run X Y K c d 0 q (O + due d q c 1) W)
  isplitr; · iexact HR
  isplitl [Hh]; · iexact Hh
  isplitl [Hs]; · iexact Hs
  isplitl [HO]; · iexact HO
  iintro Hc HO
  iapply Hk $$ [Hback Hw Hc] HO
  iapply Hback
  isplitl [Hw] <;> iassumption

/-- A turn that sends on, among what else is owed. -/
theorem next_run (K : GSem nD τ sig → ℕ) (c : Dev nD) (d : Bool) (s : Fin 7) (hs : s.val + 1 < 7) (q : Fin 2)
    (O T T' : CellTallies nD τ sig Unit) (hO : Above (2 + s.val) O) (hT : T = O + due d q c (s.val + 1)) (hT' : O + due d q c (s.val + 2) = T')
    (Kt : PUnit → sProp 𝕄) :
    iprop(recs X Y K ∗ levAts L lv ∗ lane d q c (s.val + 1) ∗ (∃ W, owes (c : Thread nD τ) T W)
        ∗ (lane d q c (s.val + 2) -∗ (∃ W, owes (c : Thread nD τ) T' W) -∗ Kt ⟨⟩))
      ⊢ wp frame (wpE (defs₀ (F := F)) 𝒱₀ c none) Set.univ (turn (F := F) c s hs q d (addend X Y d c s)) Kt := by
  subst hT' hT
  rw [due_step d q c (s.val + 1) hs, ← add_assoc]
  iintro ⟨#HR, #Hlev, Hl, ⟨%W, HO⟩, Hk⟩
  ihave Hl' := (lane_next d q c s hs) $$ Hl
  unfold idle flying
  icases Hl' with ⟨⟨Hw, Hc⟩, ⟨Hw', Hs⟩, Hback⟩
  iapply (turn_run X Y K c d s hs q (O + due d q c (s.val + 2))
    (hO.add ((due_above d q c (s.val + 2)).mono (by omega))) W)
  isplitr; · iexact HR
  isplitr; · iexact Hlev
  isplitl [Hw]; · iexact Hw
  isplitl [Hc]; · iexact Hc
  isplitl [Hs]; · iexact Hs
  isplitl [HO]; · iexact HO
  iintro Hg Hc HO
  iapply Hk $$ [Hback Hg Hw' Hc] HO
  iapply Hback $$ Hg
  isplitl [Hw'] <;> iassumption

/-- The first copies of the four lanes. -/
theorem firstSends_run (K : GSem nD τ sig → ℕ) (c : Dev nD) (W : Waits sig Unit) (Kt : PUnit → sProp 𝕄) :
    iprop(recs X Y K ∗ (halfAt true 0 c (wire X Y true 0 0 c) ∗ halfAt false 0 c (wire X Y false 0 0 c)
          ∗ halfAt true 1 c (wire X Y true 1 0 c) ∗ halfAt false 1 c (wire X Y false 1 0 c))
        ∗ lanes c 0 ∗ owes (c : Thread nD τ) (dues c 0) W
        ∗ (lanes c 1 -∗ owes (c : Thread nD τ) (dues c 1) W -∗ Kt ⟨⟩))
      ⊢ wp frame (wpE (defs₀ (F := F)) 𝒱₀ c none) Set.univ (firstSends (F := F) c) Kt := by
  unfold firstSends lanes
  simp only [wp_bind]
  iintro ⟨#HR, ⟨Hh1, Hh2, Hh3, Hh4⟩, ⟨Hl1, Hl2, Hl3, Hl4⟩, HO, Hk⟩
  iapply (start_run X Y K c true 0 (due false 0 c 0 + due true 1 c 0 + due false 1 c 0) (dues4 c 0 0 0 0) (dues4 c 1 0 0 0) (sum4_1 ..) (sum4_1 ..).symm W)
  isplitr; · iexact HR
  isplitl [Hh1]; · iexact Hh1
  isplitl [Hl1]; · iexact Hl1
  isplitl [HO]; · iexact HO
  iintro Hl1 HO
  iapply (start_run X Y K c false 0 (due true 0 c 1 + due true 1 c 0 + due false 1 c 0) (dues4 c 1 0 0 0) (dues4 c 1 1 0 0) (sum4_2 ..) (sum4_2 ..).symm W)
  isplitr; · iexact HR
  isplitl [Hh2]; · iexact Hh2
  isplitl [Hl2]; · iexact Hl2
  isplitl [HO]; · iexact HO
  iintro Hl2 HO
  iapply (start_run X Y K c true 1 (due true 0 c 1 + due false 0 c 1 + due false 1 c 0) (dues4 c 1 1 0 0) (dues4 c 1 1 1 0) (sum4_3 ..) (sum4_3 ..).symm W)
  isplitr; · iexact HR
  isplitl [Hh3]; · iexact Hh3
  isplitl [Hl3]; · iexact Hl3
  isplitl [HO]; · iexact HO
  iintro Hl3 HO
  iapply (start_run X Y K c false 1 (due true 0 c 1 + due false 0 c 1 + due true 1 c 1) (dues4 c 1 1 1 0) (dues4 c 1 1 1 1) rfl rfl W)
  isplitr; · iexact HR
  isplitl [Hh4]; · iexact Hh4
  isplitl [Hl4]; · iexact Hl4
  isplitl [HO]; · iexact HO
  iintro Hl4 HO
  iapply Hk $$ [Hl1 Hl2 Hl3 Hl4] HO
  isplitl [Hl1]; · iexact Hl1
  isplitl [Hl2]; · iexact Hl2
  isplitl [Hl3] <;> iassumption

/-! ## The steps -/

section Steps

variable (K : GSem nD τ sig → ℕ) (c : Dev nD) (ax : Memref sig .tc .vmem S8x256x256 .bf16) (aw : Memref sig .tc .vmem S256x2048 .bf16)
  (fx : Buf (Elt F) (ax.view.loc (c : Thread nD τ))) (fw : Buf (Elt F) (aw.view.loc (c : Thread nD τ)))

/-- The operands' blocks. -/
def blocks : sProp 𝕄 :=
  iprop((ax.view.loc (c : Thread nD τ) ↦[ax.view.set]{fullShare} fx) ∗ (aw.view.loc (c : Thread nD τ) ↦[aw.view.set]{fullShare} fw))

theorem step_run (hx : ax.view.read (Elt F) fx = X c) (hw : aw.view.read (Elt F) fw = Y c) (s : Fin 7) (hs : s.val + 1 < 7)
    (Kt : PUnit → sProp 𝕄) :
    iprop(recs X Y K ∗ levAts L lv ∗ blocks c ax aw fx fw ∗ lanes c (s.val + 1) ∗ (∃ W, owes (c : Thread nD τ) (dues c (s.val + 1)) W)
        ∗ (blocks c ax aw fx fw -∗ lanes c (s.val + 2) -∗ (∃ W, owes (c : Thread nD τ) (dues c (s.val + 2)) W) -∗ Kt ⟨⟩))
      ⊢ wp frame (wpE (defs₀ (F := F)) 𝒱₀ c none) Set.univ (step (F := F) ax aw c s hs) Kt := by
  have h1 : ∀ d q, Above (2 + s.val) (due d q c (s.val + 1)) := fun d q => (due_above d q c (s.val + 1)).mono (by omega)
  have h2 : ∀ d q, Above (2 + s.val) (due d q c (s.val + 2)) := fun d q => (due_above d q c (s.val + 2)).mono (by omega)
  unfold step lanes blocks
  iintro ⟨#HR, #Hlev, ⟨Hx, Hw⟩, ⟨Hl1, Hl2, Hl3, Hl4⟩, HO, Hk⟩
  iapply (product_run X Y c ax aw true s fx fw hx hw)
  isplitl [Hx]; · iexact Hx
  isplitl [Hw]; · iexact Hw
  iintro Hx Hw
  iapply (product_run X Y c ax aw false s fx fw hx hw)
  isplitl [Hx]; · iexact Hx
  isplitl [Hw]; · iexact Hw
  iintro Hx Hw
  simp only [wp_bind]
  iapply (next_run X Y K c true s hs 0 (due false 0 c (s.val + 1) + due true 1 c (s.val + 1) + due false 1 c (s.val + 1))
    (dues4 c (s.val + 1) (s.val + 1) (s.val + 1) (s.val + 1)) (dues4 c (s.val + 2) (s.val + 1) (s.val + 1) (s.val + 1))
    (((h1 _ _).add (h1 _ _)).add (h1 _ _)) (sum4_1 ..) (sum4_1 ..).symm)
  isplitr; · iexact HR
  isplitr; · iexact Hlev
  isplitl [Hl1]; · iexact Hl1
  isplitl [HO]; · iexact HO
  iintro Hl1 HO
  iapply (next_run X Y K c false s hs 0 (due true 0 c (s.val + 2) + due true 1 c (s.val + 1) + due false 1 c (s.val + 1))
    (dues4 c (s.val + 2) (s.val + 1) (s.val + 1) (s.val + 1)) (dues4 c (s.val + 2) (s.val + 2) (s.val + 1) (s.val + 1))
    (((h2 _ _).add (h1 _ _)).add (h1 _ _)) (sum4_2 ..) (sum4_2 ..).symm)
  isplitr; · iexact HR
  isplitr; · iexact Hlev
  isplitl [Hl2]; · iexact Hl2
  isplitl [HO]; · iexact HO
  iintro Hl2 HO
  iapply (next_run X Y K c true s hs 1 (due true 0 c (s.val + 2) + due false 0 c (s.val + 2) + due false 1 c (s.val + 1))
    (dues4 c (s.val + 2) (s.val + 2) (s.val + 1) (s.val + 1)) (dues4 c (s.val + 2) (s.val + 2) (s.val + 2) (s.val + 1))
    (((h2 _ _).add (h2 _ _)).add (h1 _ _)) (sum4_3 ..) (sum4_3 ..).symm)
  isplitr; · iexact HR
  isplitr; · iexact Hlev
  isplitl [Hl3]; · iexact Hl3
  isplitl [HO]; · iexact HO
  iintro Hl3 HO
  iapply (next_run X Y K c false s hs 1 (due true 0 c (s.val + 2) + due false 0 c (s.val + 2) + due true 1 c (s.val + 2))
    (dues4 c (s.val + 2) (s.val + 2) (s.val + 2) (s.val + 1)) (dues4 c (s.val + 2) (s.val + 2) (s.val + 2) (s.val + 2))
    (((h2 _ _).add (h2 _ _)).add (h2 _ _)) rfl rfl)
  isplitr; · iexact HR
  isplitr; · iexact Hlev
  isplitl [Hl4]; · iexact Hl4
  isplitl [HO]; · iexact HO
  iintro Hl4 HO
  iapply Hk $$ [Hx Hw] [Hl1 Hl2 Hl3 Hl4] HO
  · isplitl [Hx] <;> iassumption
  isplitl [Hl1]; · iexact Hl1
  isplitl [Hl2]; · iexact Hl2
  isplitl [Hl3] <;> iassumption

theorem steps_run (hx : ax.view.read (Elt F) fx = X c) (hw : aw.view.read (Elt F) fw = Y c) :
    ∀ (n : ℕ) (hn : n ≤ 6) (Kt : PUnit → sProp 𝕄),
    iprop(recs X Y K ∗ levAts L lv ∗ blocks c ax aw fx fw ∗ lanes c 1 ∗ (∃ W, owes (c : Thread nD τ) (dues c 1) W)
        ∗ (blocks c ax aw fx fw -∗ lanes c (n + 1) -∗ (∃ W, owes (c : Thread nD τ) (dues c (n + 1)) W) -∗ Kt ⟨⟩))
      ⊢ wp frame (wpE (defs₀ (F := F)) 𝒱₀ c none) Set.univ (steps (F := F) ax aw c n hn) Kt
  | 0, _, Kt => by
    unfold steps
    rw [Prog.pure_eq_ret, wp_ret]
    iintro ⟨-, -, Hb, Hl, HO, Hk⟩
    imodintro
    iapply Hk $$ Hb Hl HO
  | n + 1, hn, Kt => by
    unfold steps
    rw [wp_bind]
    iintro ⟨#HR, #Hlev, Hb, Hl, HO, Hk⟩
    iapply (steps_run hx hw n (Nat.le_of_succ_le hn) _)
    isplitr; · iexact HR
    isplitr; · iexact Hlev
    isplitl [Hb]; · iexact Hb
    isplitl [Hl]; · iexact Hl
    isplitl [HO]; · iexact HO
    iintro Hb Hl HO
    iapply (step_run X Y K c ax aw fx fw hx hw ⟨n, Nat.lt_of_succ_le (Nat.le_trans hn (by decide))⟩ (Nat.succ_lt_succ hn) Kt)
    isplitr; · iexact HR
    isplitr; · iexact Hlev
    isplitl [Hb]; · iexact Hb
    isplitl [Hl]; · iexact Hl
    isplitl [HO]; · iexact HO
    iexact Hk

/-- The result buffer after the last step's four stores. -/
def filled (ao : Memref sig .tc .vmem S256x2048 .f32) (f : Buf (Elt F) (ao.view.loc (c : Thread nD τ))) : Buf (Elt F) (ao.view.loc (c : Thread nD τ)) :=
  (ao.access (outR false 1)).write (Elt F) ((ao.access (outR true 1)).write (Elt F) ((ao.access (outR false 0)).write (Elt F)
    ((ao.access (outR true 0)).write (Elt F) f (final X Y true 0 c) Finset.univ) (final X Y false 0 c) Finset.univ)
    (final X Y true 1 c) Finset.univ) (final X Y false 1 c) Finset.univ

theorem lastStep_run (hx : ax.view.read (Elt F) fx = X c) (hw : aw.view.read (Elt F) fw = Y c)
    (ao : Memref sig .tc .vmem S256x2048 .f32) (f : Buf (Elt F) (ao.view.loc (c : Thread nD τ))) (Kt : PUnit → sProp 𝕄) :
    iprop(recs X Y K ∗ levAts L lv ∗ blocks c ax aw fx fw ∗ lanes c 7 ∗ (ao.view.loc (c : Thread nD τ) ↦[ao.view.set]{fullShare} f)
        ∗ (∃ W, owes (c : Thread nD τ) (0 : CellTallies nD τ sig Unit) W)
        ∗ (blocks c ax aw fx fw -∗ lanes c 8 -∗ (halfAny true 0 c ∗ halfAny false 0 c ∗ halfAny true 1 c ∗ halfAny false 1 c)
            -∗ (ao.view.loc (c : Thread nD τ) ↦[ao.view.set]{fullShare} filled X Y c ao f)
            -∗ (∃ W, owes (c : Thread nD τ) (0 : CellTallies nD τ sig Unit) W) -∗ Kt ⟨⟩))
      ⊢ wp frame (wpE (defs₀ (F := F)) 𝒱₀ c none) Set.univ (lastStep (F := F) ax aw ao c) Kt := by
  unfold lastStep lanes blocks filled
  iintro ⟨#HR, #Hlev, ⟨Hx, Hw⟩, ⟨Hl1, Hl2, Hl3, Hl4⟩, Ho, ⟨%W, HO⟩, Hk⟩
  iapply (product_run X Y c ax aw true 6 fx fw hx hw)
  isplitl [Hx]; · iexact Hx
  isplitl [Hw]; · iexact Hw
  iintro Hx Hw
  iapply (product_run X Y c ax aw false 6 fx fw hx hw)
  isplitl [Hx]; · iexact Hx
  isplitl [Hw]; · iexact Hw
  iintro Hx Hw
  simp only [wp_bind]
  ihave H1 := (lane_end true 0 c) $$ Hl1
  ihave H2 := (lane_end false 0 c) $$ Hl2
  ihave H3 := (lane_end true 1 c) $$ Hl3
  ihave H4 := (lane_end false 1 c) $$ Hl4
  unfold flying
  icases H1 with ⟨⟨Hw1, Hc1⟩, Hb1⟩
  icases H2 with ⟨⟨Hw2, Hc2⟩, Hb2⟩
  icases H3 with ⟨⟨Hw3, Hc3⟩, Hb3⟩
  icases H4 with ⟨⟨Hw4, Hc4⟩, Hb4⟩
  iapply (lastTurn_run X Y K c ao true 0 0 (Above.zero _) W f)
  isplitr; · iexact HR
  isplitr; · iexact Hlev
  isplitl [Hw1]; · iexact Hw1
  isplitl [Hc1]; · iexact Hc1
  isplitl [Ho]; · iexact Ho
  isplitl [HO]; · iexact HO
  iintro Hg1 Hh1 Ho ⟨%W1, HO⟩
  iapply (lastTurn_run X Y K c ao false 0 0 (Above.zero _) W1 _)
  isplitr; · iexact HR
  isplitr; · iexact Hlev
  isplitl [Hw2]; · iexact Hw2
  isplitl [Hc2]; · iexact Hc2
  isplitl [Ho]; · iexact Ho
  isplitl [HO]; · iexact HO
  iintro Hg2 Hh2 Ho ⟨%W2, HO⟩
  iapply (lastTurn_run X Y K c ao true 1 0 (Above.zero _) W2 _)
  isplitr; · iexact HR
  isplitr; · iexact Hlev
  isplitl [Hw3]; · iexact Hw3
  isplitl [Hc3]; · iexact Hc3
  isplitl [Ho]; · iexact Ho
  isplitl [HO]; · iexact HO
  iintro Hg3 Hh3 Ho ⟨%W3, HO⟩
  iapply (lastTurn_run X Y K c ao false 1 0 (Above.zero _) W3 _)
  isplitr; · iexact HR
  isplitr; · iexact Hlev
  isplitl [Hw4]; · iexact Hw4
  isplitl [Hc4]; · iexact Hc4
  isplitl [Ho]; · iexact Ho
  isplitl [HO]; · iexact HO
  iintro Hg4 Hh4 Ho HO
  iapply Hk $$ [Hx Hw] [Hb1 Hg1 Hb2 Hg2 Hb3 Hg3 Hb4 Hg4] [Hh1 Hh2 Hh3 Hh4] Ho HO
  · isplitl [Hx] <;> iassumption
  · isplitl [Hb1 Hg1]; · iapply Hb1 $$ Hg1
    isplitl [Hb2 Hg2]; · iapply Hb2 $$ Hg2
    isplitl [Hb3 Hg3]; · iapply Hb3 $$ Hg3
    iapply Hb4 $$ Hg4
  isplitl [Hh1]; · iexact Hh1
  isplitl [Hh2]; · iexact Hh2
  isplitl [Hh3] <;> iassumption

end Steps

end Cert.KernelIdeal.Ring

end
-- ==== Proof.Body.lean ====
/-
  The kernel's body from the handshake to the last store, every counter back at zero.
-/
module

public import proofs.«01_k».proof.Proof.Lanes

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S8x256x256 .bf16) (Y : Dev nD → Vec F S256x2048 .bf16)

/-! ## The buffers and their pieces -/

/-- A position within a rectangle's bounds is one of its positions. -/
theorem exists_emb {s : Shape} (off size : Fin s.rank → ℕ) (inb : ∀ a, off a + size a ≤ s.size a) (z : s.Idx)
    (h : ∀ a, off a ≤ (z a).val ∧ (z a).val < off a + size a) : ∃ x, (Rect.unit off size inb).emb x = z :=
  ⟨fun a => ⟨(z a).val - off a, by have := h a; show _ < size a; omega⟩, funext fun a => Fin.ext (by
    have := h a
    show off a + 1 * ((z a).val - off a) = (z a).val
    omega)⟩

theorem emb_val {s : Shape} (off size : Fin s.rank → ℕ) (inb : ∀ a, off a + size a ≤ s.size a) (x : (Rect.unit off size inb).shape.Idx)
    (a : Fin s.rank) : ((Rect.unit off size inb).emb x a).val = off a + (x a).val := by
  show off a + 1 * (x a).val = _
  rw [Nat.one_mul]

theorem half_cover (z : S256x1024.Idx) : ∃ q x, (halfR q).emb x = z := by
  have h0 : (z 0).val < 256 := (z 0).isLt
  have h1 : (z 1).val < 1024 := (z 1).isLt
  refine ⟨⟨(z 1).val / 512, by omega⟩, exists_emb _ _ _ z fun a => ?_⟩
  fin_cases a
  · show 0 ≤ (z 0).val ∧ (z 0).val < 0 + 256; omega
  · show 512 * ((z 1).val / 512) ≤ (z 1).val ∧ (z 1).val < 512 * ((z 1).val / 512) + 512; omega

theorem half_apart (q q' : Fin 2) (x x') (h : (halfR q).emb x = (halfR q').emb x') : q = q' := by
  have h1 : ((halfR q).emb x 1).val = ((halfR q').emb x' 1).val := by rw [h]
  rw [emb_val, emb_val] at h1
  have e : 512 * q.val + (x 1).val = 512 * q'.val + (x' 1).val := h1
  have b : (x 1).val < 512 := (x 1).isLt
  have b' : (x' 1).val < 512 := (x' 1).isLt
  exact Fin.ext (by omega)

theorem slot_cover (z : S7x256x1024.Idx) : ∃ (sq : Fin 7 × Fin 2) (x : (slotR sq.1 sq.2).shape.Idx), (slotR sq.1 sq.2).emb x = z := by
  have h0 : (z 0).val < 7 := (z 0).isLt
  have h1 : (z 1).val < 256 := (z 1).isLt
  have h2 : (z 2).val < 1024 := (z 2).isLt
  refine ⟨(⟨(z 0).val, h0⟩, ⟨(z 2).val / 512, by omega⟩), exists_emb _ _ _ z fun a => ?_⟩
  fin_cases a
  · show (z 0).val ≤ (z 0).val ∧ (z 0).val < (z 0).val + 1; omega
  · show 0 ≤ (z 1).val ∧ (z 1).val < 0 + 256; omega
  · show 512 * ((z 2).val / 512) ≤ (z 2).val ∧ (z 2).val < 512 * ((z 2).val / 512) + 512; omega

theorem slot_apart (a b : Fin 7 × Fin 2) (x x') (h : (slotR a.1 a.2).emb x = (slotR b.1 b.2).emb x') : a = b := by
  have h0 : ((slotR a.1 a.2).emb x 0).val = ((slotR b.1 b.2).emb x' 0).val := by rw [h]
  have h2 : ((slotR a.1 a.2).emb x 2).val = ((slotR b.1 b.2).emb x' 2).val := by rw [h]
  rw [emb_val, emb_val] at h0 h2
  have e0 : a.1.val + (x 0).val = b.1.val + (x' 0).val := h0
  have e2 : 512 * a.2.val + (x 2).val = 512 * b.2.val + (x' 2).val := h2
  have b0 : (x 0).val < 1 := (x 0).isLt
  have b0' : (x' 0).val < 1 := (x' 0).isLt
  have b2 : (x 2).val < 512 := (x 2).isLt
  have b2' : (x' 2).val < 512 := (x' 2).isLt
  exact Prod.ext (Fin.ext (by omega)) (Fin.ext (by omega))

/-- Summand by summand. -/
theorem all_mono {I : Type} {S : Finset I} {Φ Ψ : I → sProp 𝕄} (h : ∀ i ∈ S, Φ i ⊢ Ψ i) : bigSep S Φ ⊢ bigSep S Ψ := bigSep_mono h

theorem bool_eq (Φ : Bool → sProp 𝕄) : bigSep Finset.univ Φ = iprop(Φ true ∗ Φ false) := by
  rw [bigSep_eq_bigSepL_of_eq [true, false] (by decide) (by decide)]; rfl

theorem two_eq (Φ : Fin 2 → sProp 𝕄) : bigSep Finset.univ Φ = iprop(Φ 0 ∗ Φ 1) := bigSep_fin_two Φ

theorem sep_pair (A B C D : sProp 𝕄) : iprop((A ∗ B) ∗ (C ∗ D)) = iprop(A ∗ C ∗ B ∗ D) := by
  have h : ∀ A B C D : sProp 𝕄, iprop((A ∗ B) ∗ (C ∗ D)) ⊢ iprop(A ∗ C ∗ B ∗ D) := fun A B C D => by
    iintro ⟨⟨H1, H3⟩, ⟨H2, H4⟩⟩
    isplitl [H1]; · iexact H1
    isplitl [H2]; · iexact H2
    isplitl [H3] <;> iassumption
  have h' : ∀ A B C D : sProp 𝕄, iprop(A ∗ C ∗ B ∗ D) ⊢ iprop((A ∗ B) ∗ (C ∗ D)) := fun A B C D => by
    iintro ⟨H1, H2, H3, H4⟩
    isplitl [H1 H3]
    · isplitl [H1] <;> iassumption
    isplitl [H2] <;> iassumption
  exact BI.equiv_iff.mp ⟨h A B C D, h' A B C D⟩

section Cut

variable {sp : Space} {s : Shape} {e : EltTy} (v : View sig .tc sp s e) {I : Type} [Fintype I] [DecidableEq I] (r : I → Rect s)

theorem cut_apart (hd : ∀ i j x y, (r i).emb x = (r j).emb y → i = j) :
    ∀ i ∈ (Finset.univ : Finset I), ∀ j ∈ (Finset.univ : Finset I), i ≠ j → Disjoint (v.slice (r i)).set (v.slice (r j)).set :=
  fun i _ j _ hij => Finset.disjoint_left.mpr fun z hz hz' => by
    obtain ⟨x, hx⟩ := View.exists_of_mem_set_slice hz
    obtain ⟨y, hy⟩ := View.exists_of_mem_set_slice hz'
    exact hij (hd i j x y (v.emb.injective (hx.trans hy.symm)))

theorem cut_cover (hc : ∀ z, ∃ i x, (r i).emb x = z) : v.set = Finset.univ.biUnion fun i => (v.slice (r i)).set := by
  refine Finset.Subset.antisymm (fun z hz => ?_) (Finset.biUnion_subset.mpr fun i _ => View.set_slice_subset v (r i))
  obtain ⟨y, -, rfl⟩ := Finset.mem_map.mp hz
  obtain ⟨i, x, rfl⟩ := hc y
  exact Finset.mem_biUnion.mpr ⟨i, Finset.mem_univ i, (v.slice (r i)).emb_mem_set x⟩

end Cut

/-- Separate pieces, each at some contents, are their union at some contents. -/
theorem join_any {ℓ : Loc nD τ sig} {I : Type} [Fintype I] [DecidableEq I] (i₀ : I) (P : I → Finset (Idx ℓ))
    (h : ∀ i ∈ (Finset.univ : Finset I), ∀ j ∈ (Finset.univ : Finset I), i ≠ j → Disjoint (P i) (P j)) :
    (bigSep Finset.univ fun i => iprop(∃ f, ℓ ↦[P i]{fullShare} f) : sProp 𝕄) ⊢ iprop(∃ f, ℓ ↦[Finset.univ.biUnion P]{fullShare} f) := by
  by_cases hn : Nonempty (Buf (Elt F) ℓ)
  · refine (bigSep_exists_pi Finset.univ fun i (f : Buf (Elt F) ℓ) => (ℓ ↦[P i]{fullShare} f : sProp 𝕄)).trans ?_
    iintro ⟨%fs, H⟩
    ihave H' := (pointsTo_biUnion_join Finset.univ P fs (fs i₀) h) $$ H
    icases H' with ⟨%g, -, H⟩
    iexists g; iexact H
  · rw [bigSep_univ_at _ i₀]
    iintro ⟨⟨%f, -⟩, -⟩
    exact absurd ⟨f⟩ hn

/-- And back. -/
theorem cut_any {ℓ : Loc nD τ sig} {I : Type} [Fintype I] [DecidableEq I] (P : I → Finset (Idx ℓ))
    (h : ∀ i ∈ (Finset.univ : Finset I), ∀ j ∈ (Finset.univ : Finset I), i ≠ j → Disjoint (P i) (P j)) :
    iprop(∃ f, ℓ ↦[Finset.univ.biUnion P]{fullShare} f) ⊢ (bigSep Finset.univ fun i => iprop(∃ f, ℓ ↦[P i]{fullShare} f) : sProp 𝕄) := by
  have e : ∀ f : Buf (Elt F) ℓ, (ℓ ↦[Finset.univ.biUnion P]{fullShare} f : sProp 𝕄) ⊢ bigSep Finset.univ fun i => iprop(∃ f, ℓ ↦[P i]{fullShare} f) := fun f => by
    rw [pointsTo_biUnion Finset.univ P h]
    exact all_mono fun i _ => by iintro H; iexists f; iexact H
  iintro ⟨%f, H⟩
  iapply (e f) $$ H

/-- A staging buffer at some contents. -/
def stgAny (d : Bool) (c : Dev nD) : sProp 𝕄 := iprop(∃ f, (stgM d).view.loc (c : Thread nD τ) ↦[(stgM d).view.set]{fullShare} f)
/-- A landing buffer at some contents. -/
def rcvAny (d : Bool) (c : Dev nD) : sProp 𝕄 := iprop(∃ f, (rcvM d).view.loc (c : Thread nD τ) ↦[(rcvM d).view.set]{fullShare} f)

/-- A slot as the piece of the landing buffer it is. -/
theorem slotAny_eq (d : Bool) (s : Fin 7) (q : Fin 2) (c : Dev nD) :
    (slotAny d s q c : sProp 𝕄)
      = iprop(∃ f, (rcvM d).view.loc (c : Thread nD τ) ↦[((rcvM d).view.slice (slotR s q)).set]{fullShare} f) :=
  congrArg (fun S : Finset (Idx ((rcvM d).view.loc (c : Thread nD τ))) =>
    (iprop(∃ f, (rcvM d).view.loc (c : Thread nD τ) ↦[S]{fullShare} f) : sProp 𝕄)) (View.set_reshape (slot3M d s q).view _)

/-- A landing buffer is its slots. -/
theorem rcv_cut (d : Bool) (c : Dev nD) : (rcvAny d c : sProp 𝕄) ⊢ bigSep Finset.univ fun sq : Fin 7 × Fin 2 => slotAny d sq.1 sq.2 c := by
  unfold rcvAny
  rw [cut_cover (rcvM d).view (fun sq : Fin 7 × Fin 2 => slotR sq.1 sq.2) slot_cover, bigSep_congr fun (sq : Fin 7 × Fin 2) _ => slotAny_eq d sq.1 sq.2 c]
  exact cut_any _ (cut_apart (rcvM d).view (fun sq : Fin 7 × Fin 2 => slotR sq.1 sq.2) slot_apart)

theorem rcv_join (d : Bool) (c : Dev nD) : (bigSep Finset.univ fun sq : Fin 7 × Fin 2 => slotAny d sq.1 sq.2 c) ⊢ (rcvAny d c : sProp 𝕄) := by
  unfold rcvAny
  rw [cut_cover (rcvM d).view (fun sq : Fin 7 × Fin 2 => slotR sq.1 sq.2) slot_cover, bigSep_congr fun (sq : Fin 7 × Fin 2) _ => slotAny_eq d sq.1 sq.2 c]
  exact join_any ((0 : Fin 7), (0 : Fin 2)) _ (cut_apart (rcvM d).view (fun sq : Fin 7 × Fin 2 => slotR sq.1 sq.2) slot_apart)

/-- A staging buffer at its first value is its sub-blocks at the values first sent. -/
theorem stg_cut (d : Bool) (c : Dev nD) (g : Buf (Elt F) ((stgM d).view.loc (c : Thread nD τ)))
    (hg : (stgM d).view.read (Elt F) g = first X Y d c) :
    ((stgM d).view.loc (c : Thread nD τ) ↦[(stgM d).view.set]{fullShare} g : sProp 𝕄)
      ⊢ iprop(halfAt d 0 c (wire X Y d 0 0 c) ∗ halfAt d 1 c (wire X Y d 1 0 c)) := by
  rw [cut_cover (stgM d).view halfR half_cover, pointsTo_biUnion _ _ (cut_apart (stgM d).view halfR half_apart), two_eq]
  unfold halfAt
  iintro ⟨H0, H1⟩
  isplitl [H0]
  · iexists g
    isplitr; · ipureintro; exact funext fun i => congrFun hg ((halfR 0).emb i)
    iexact H0
  · iexists g
    isplitr; · ipureintro; exact funext fun i => congrFun hg ((halfR 1).emb i)
    iexact H1

theorem stg_join (d : Bool) (c : Dev nD) : iprop(halfAny d 0 c ∗ halfAny d 1 c) ⊢ (stgAny d c : sProp 𝕄) := by
  unfold stgAny
  rw [cut_cover (stgM d).view halfR half_cover]
  refine BIBase.Entails.trans ?_ (join_any (0 : Fin 2) _ (cut_apart (stgM d).view halfR half_apart))
  rw [two_eq]
  unfold halfAny
  exact BI.Entails.refl _

/-! ## The steps of all lanes together -/

/-- A copy's name: direction, step, sub-block. -/
abbrev Copy : Type := Bool × Fin 7 × Fin 2

/-- The copies, lane by lane. -/
theorem four_eq (Φ : Copy → sProp 𝕄) :
    bigSep Finset.univ Φ = iprop((bigSep Finset.univ fun s => Φ (true, s, 0)) ∗ (bigSep Finset.univ fun s => Φ (false, s, 0))
      ∗ (bigSep Finset.univ fun s => Φ (true, s, 1)) ∗ (bigSep Finset.univ fun s => Φ (false, s, 1))) := by
  rw [bigSep_univ_prod, bool_eq, bigSep_univ_prod, bigSep_univ_prod, bigSep_univ_comm, two_eq, bigSep_univ_comm, two_eq]
  exact sep_pair _ _ _ _

/-- What a device has for a copy once the cells are open. -/
def ready (c : Dev nD) (x : Copy) : sProp 𝕄 :=
  iprop((waits x.1 x.2.2 c x.2.1
      ∗ dutyTok ER (sndCell x.1 x.2.1 x.2.2 c) 0 true ∗ reached ER (sndCell x.1 x.2.1 x.2.2 c) 0
      ∗ dutyTok ER (rcvCell x.1 x.2.1 x.2.2 (tgt x.1 c)) 0 true)
    ∗ reached ER (rcvCell x.1 x.2.1 x.2.2 c) 0)

/-- To shake hands with: the own position and credit, and the two neighbours' duties. -/
def shakeKit (c : Dev nD) : sProp 𝕄 :=
  iprop(atPos ER (barCell c) 0 ∅ 0 ∗ cred (tallyAt (barCell c) () 2)
    ∗ dutyTok ER (barCell (tgt false c)) 0 true ∗ dutyTok ER (barCell (tgt true c)) 0 false
    ∗ reached ER (barCell (tgt false c)) 0 ∗ reached ER (barCell (tgt true c)) 0)

/-- What a device owes at the start. -/
def owed₀ (c : Dev nD) : CellTallies nD τ sig Unit :=
  dues c 0 + tallyAt (barCell (tgt true c)) () 1 + tallyAt (barCell (tgt false c)) () 1

/-- The handshake: the own slots go to the neighbours, theirs come. -/
theorem shake_run (K : GSem nD τ sig → ℕ) (c : Dev nD) (W : Waits sig Unit) (Kt : PUnit → sProp 𝕄) :
    iprop(recs X Y K ∗ levAts L lv ∗ shakeKit c ∗ barPay (tgt false c) true ∗ barPay (tgt true c) false ∗ owes (c : Thread nD τ) (owed₀ c) W
        ∗ (atPos ER (barCell c) (0 + 1) ∅ 0 -∗ (barPay c true ∗ barPay c false) -∗ (∃ W, owes (c : Thread nD τ) (dues c 0) W) -∗ Kt ⟨⟩))
      ⊢ wp frame (wpE (defs₀ (F := F)) 𝒱₀ c none) Set.univ (shake (F := F) c) Kt := by
  unfold shake shakeKit owed₀
  rw [dev1_eq, dev2_eq]
  simp only [semSignalWord, semWaitWord, Prog.lift, Prog.bind_op, Prog.bind_ret]
  iintro ⟨#HR, #Hlev, ⟨Ha, Hc, Ht1, Ht2, #Hr1, #Hr2⟩, Hp1, Hp2, HO, Hk⟩
  ihave #HI := (recs_bar X Y K c) $$ HR
  ihave #HI1 := (recs_bar X Y K (tgt false c)) $$ HR
  ihave #HI2 := (recs_bar X Y K (tgt true c)) $$ HR
  iapply (Rounds.wp_signal 𝒱₀ ER (ringRd X Y) (c : Thread nD τ) none (dst := (tgt false c : Thread nD τ)) (sem := barrier0) (r := 0) (d := true)
      (κ := K (barCell (tgt false c))) (by rw [duties_bar]; exact Finset.mem_univ _) (amount_bar X Y (tgt false c) true) ()
      (dues c 0 + tallyAt (barCell (tgt true c)) () 1) rfl) $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ ER (ringRd X Y) (c : Thread nD τ) none (dst := (tgt true c : Thread nD τ)) (sem := barrier0) (r := 0) (d := false)
      (κ := K (barCell (tgt true c))) (by rw [duties_bar]; exact Finset.mem_univ _) (amount_bar X Y (tgt true c) false) ()
      (dues c 0) rfl) $$ [HO Ht2 Hp2]
  · isplitr; · iexact HI2
    isplitl [HO]; · iexact HO
    isplitl [Ht2]; · iexact Ht2
    isplitl [Hp2]; · rw [payload_bar]; iexact Hp2
    iexact Hr2
  iintro HO
  iapply (Rounds.wp_wait_rest_token 𝒱₀ ER (ringRd X Y) (c : Thread nD τ) none (sm := .reg barrier0) (κ := K (barCell c))
      (wpE_semWait_eq 𝒱₀ (c : Thread nD τ) none Set.univ) (Set.mem_univ _) () (O := dues c 0) (R := 0) (m := 0) (T := ∅)
      ((Nat.zero_add 2).trans (expect_bar X Y c).symm)) $$ [Hc HO Ha]
  · isplitr; · iexact HI
    isplitl [Hc]; · iexact Hc
    isplitl [HO]; · iexact HO
    isplitr; · iapply (mayWait (b := 1) (by rw [lv_bar]) (dues_above c 0)); iexact Hlev
    iexact Ha
  iintro ⟨HO, Ha, -, Hp⟩
  ihave Hp' := (Entails.of_eq (rest_bar X Y c)) $$ Hp
  rw [wp_ret]
  imodintro
  iapply Hk $$ Ha Hp'
  iexists _; iexact HO

/-- What a device hands a neighbour at the handshake: its own slots. -/
theorem hand_over (d : Bool) (c : Dev nD) :
    iprop(rcvAny d c ∗ bigSep Finset.univ fun sq : Fin 7 × Fin 2 => reached ER (rcvCell d sq.1 sq.2 c) 0) ⊢ (barPay (srcOf d c) d : sProp 𝕄) := by
  unfold barPay
  rw [tgt_srcOf, bigSep_sep']
  iintro ⟨H, Hr⟩
  isplitl [H]; · iapply (rcv_cut d c) $$ H
  iexact Hr

/-- With the neighbours' slots, the four lanes stand at no copy started. -/
theorem lanes_intro (c : Dev nD) :
    iprop((bigSep Finset.univ fun x : Copy => iprop(waits x.1 x.2.2 c x.2.1
          ∗ dutyTok ER (sndCell x.1 x.2.1 x.2.2 c) 0 true ∗ reached ER (sndCell x.1 x.2.1 x.2.2 c) 0
          ∗ dutyTok ER (rcvCell x.1 x.2.1 x.2.2 (tgt x.1 c)) 0 true))
        ∗ barPay c true ∗ barPay c false)
      ⊢ (lanes c 0 : sProp 𝕄) := by
  have e : iprop(barPay c true ∗ barPay c false) = bigSep Finset.univ fun x : Copy =>
      (iprop(slotAny x.1 x.2.1 x.2.2 (tgt x.1 c) ∗ reached ER (rcvCell x.1 x.2.1 x.2.2 (tgt x.1 c)) 0) : sProp 𝕄) := by
    rw [bigSep_univ_prod, bool_eq]; rfl
  rw [e, ← bigSep_sep', four_eq]
  unfold lanes
  rw [lane_zero, lane_zero, lane_zero, lane_zero]
  have m : ∀ (d : Bool) (q : Fin 2), (bigSep Finset.univ fun s : Fin 7 => (iprop((waits d q c s
          ∗ dutyTok ER (sndCell d s q c) 0 true ∗ reached ER (sndCell d s q c) 0 ∗ dutyTok ER (rcvCell d s q (tgt d c)) 0 true)
        ∗ slotAny d s q (tgt d c) ∗ reached ER (rcvCell d s q (tgt d c)) 0) : sProp 𝕄)) ⊢ bigSep Finset.univ (idle d q c) :=
    fun d q => all_mono fun s _ => by
      unfold idle sends
      iintro ⟨⟨Hw, Ht⟩, Hs⟩
      isplitl [Hw]; · iexact Hw
      isplitl [Ht] <;> iassumption
  exact BIClass.sep_mono (m true 0) (BIClass.sep_mono (m false 0) (BIClass.sep_mono (m true 1) (m false 1)))

/-- The lanes' ends: every counter closed at zero, the landing buffers back. -/
theorem lanes_elim (K : GSem nD τ sig → ℕ) (c : Dev nD) :
    iprop(recs X Y K ∗ lanes c 8)
      ⊢ (|={Set.univ}=> iprop((bigSep Finset.univ fun x : Copy => iprop(semVal (sndCell x.1 x.2.1 x.2.2 c) 0 ∗ semVal (rcvCell x.1 x.2.1 x.2.2 c) 0))
          ∗ rcvAny true c ∗ rcvAny false c) : sProp 𝕄) := by
  unfold lanes
  rw [lane_done, lane_done, lane_done, lane_done, ← four_eq (fun x : Copy => (gone x.1 x.2.2 c x.2.1 : sProp 𝕄))]
  have h : iprop(recs X Y K ∗ bigSep Finset.univ fun x : Copy => (gone x.1 x.2.2 c x.2.1 : sProp 𝕄))
      ⊢ bigSep Finset.univ fun x : Copy => (iprop(|={Set.univ}=> ((semVal (sndCell x.1 x.2.1 x.2.2 c) 0 ∗ semVal (rcvCell x.1 x.2.1 x.2.2 c) 0)
          ∗ slotAny x.1 x.2.1 x.2.2 c)) : sProp 𝕄) :=
    bigSep_with_persistent fun x _ => by
      unfold gone
      iintro ⟨#HR, Ha1, Ha2, Hs⟩
      ihave #HI1 := (recs_key X Y K (false, x.1, x.2.1, x.2.2) c) $$ HR
      ihave #HI2 := (recs_key X Y K (true, x.1, x.2.1, x.2.2) c) $$ HR
      imod (close X Y (K (sndCell x.1 x.2.1 x.2.2 c)) (sndCell x.1 x.2.1 x.2.2 c)) $$ [Ha1] with H1
      · isplitr; · iexact HI1
        iexact Ha1
      imod (close X Y (K (rcvCell x.1 x.2.1 x.2.2 c)) (rcvCell x.1 x.2.1 x.2.2 c)) $$ [Ha2] with H2
      · isplitr; · iexact HI2
        iexact Ha2
      imodintro
      isplitr [Hs]; · isplitl [H1] <;> iassumption
      iexact Hs
  refine (h.trans (bigSep_fupd _ _)).trans (fupd_mono ?_)
  rw [bigSep_sep', bigSep_univ_prod (fun x : Copy => (slotAny x.1 x.2.1 x.2.2 c : sProp 𝕄)), bool_eq]
  exact BIClass.sep_mono (BI.Entails.refl _) (BIClass.sep_mono (rcv_join true c) (rcv_join false c))

/-! ## The body -/

section Run

variable (K : GSem nD τ sig → ℕ) (c : Dev nD) (ax : Memref sig .tc .vmem S8x256x256 .bf16) (aw : Memref sig .tc .vmem S256x2048 .bf16)
  (ao : Memref sig .tc .vmem S256x2048 .f32)
  (fx : Buf (Elt F) (ax.view.loc (c : Thread nD τ))) (fw : Buf (Elt F) (aw.view.loc (c : Thread nD τ))) (fo : Buf (Elt F) (ao.view.loc (c : Thread nD τ)))

/-- The four scratch buffers. -/
def scratch : sProp 𝕄 := iprop((stgAny true c ∗ stgAny false c) ∗ rcvAny true c ∗ rcvAny false c)

/-- The protocol's share of a device once its cells are open. -/
def kit : sProp 𝕄 := iprop(shakeKit c ∗ bigSep Finset.univ (ready c))

/-- Every counter of a device at zero. -/
def zeros : sProp 𝕄 :=
  iprop(semVal (barCell c) 0 ∗ bigSep Finset.univ fun x : Copy => iprop(semVal (sndCell x.1 x.2.1 x.2.2 c) 0 ∗ semVal (rcvCell x.1 x.2.1 x.2.2 c) 0))

theorem body_run (hx : ax.view.read (Elt F) fx = X c) (hw : aw.view.read (Elt F) fw = Y c) (W : Waits sig Unit) (Kt : PUnit → sProp 𝕄) :
    iprop(recs X Y K ∗ levAts L lv ∗ kit c ∗ scratch c ∗ blocks c ax aw fx fw ∗ (ao.view.loc (c : Thread nD τ) ↦[ao.view.set]{fullShare} fo)
        ∗ owes (c : Thread nD τ) (owed₀ c) W
        ∗ (zeros c -∗ scratch c -∗ blocks c ax aw fx fw -∗ (ao.view.loc (c : Thread nD τ) ↦[ao.view.set]{fullShare} filled X Y c ao fo)
            -∗ (∃ W, owes (c : Thread nD τ) (0 : CellTallies nD τ sig Unit) W) -∗ Kt ⟨⟩))
      ⊢ wp frame (wpE (defs₀ (F := F)) 𝒱₀ c none) Set.univ (ringBody (F := F) ax aw ao) Kt := by
  unfold ringBody kit scratch ready
  simp only [Prog.lift, Prog.bind_op, Prog.bind_ret, wp_deviceId]
  rw [bigSep_sep', bigSep_univ_prod (fun x : Copy => (reached ER (rcvCell x.1 x.2.1 x.2.2 c) 0 : sProp 𝕄)), bool_eq]
  simp only [wp_bind]
  iintro ⟨#HR, #Hlev, ⟨Hsk, Hrd, Hr1, Hr2⟩, ⟨⟨Hst, Hsf⟩, Hrt, Hrf⟩, Hb, Ho, HO, Hk⟩
  iapply (shake_run X Y K c W)
  isplitr; · iexact HR
  isplitr; · iexact Hlev
  isplitl [Hsk]; · iexact Hsk
  isplitl [Hrt Hr1]
  · iapply (hand_over true c)
    isplitl [Hrt] <;> iassumption
  isplitl [Hrf Hr2]
  · iapply (hand_over false c)
    isplitl [Hrf] <;> iassumption
  isplitl [HO]; · iexact HO
  iintro Ha Hp ⟨%W1, HO⟩
  ihave Hl := (lanes_intro c) $$ [Hrd Hp]
  · isplitl [Hrd] <;> iassumption
  unfold stgAny
  icases Hst with ⟨%gt, Hst⟩
  icases Hsf with ⟨%gf, Hsf⟩
  unfold blocks
  icases Hb with ⟨Hx, Hw⟩
  iapply (fill_run X Y c ax aw true fx fw hx hw gt)
  isplitl [Hx]; · iexact Hx
  isplitl [Hw]; · iexact Hw
  isplitl [Hst]; · iexact Hst
  iintro Hx Hw ⟨%gt', %hgt, Hst⟩
  iapply (fill_run X Y c ax aw false fx fw hx hw gf)
  isplitl [Hx]; · iexact Hx
  isplitl [Hw]; · iexact Hw
  isplitl [Hsf]; · iexact Hsf
  iintro Hx Hw ⟨%gf', %hgf, Hsf⟩
  ihave Hht := (stg_cut X Y true c gt' hgt) $$ Hst
  ihave Hhf := (stg_cut X Y false c gf' hgf) $$ Hsf
  icases Hht with ⟨Ht0, Ht1⟩
  icases Hhf with ⟨Hf0, Hf1⟩
  iapply (firstSends_run X Y K c W1)
  isplitr; · iexact HR
  isplitl [Ht0 Hf0 Ht1 Hf1]
  · isplitl [Ht0]; · iexact Ht0
    isplitl [Hf0]; · iexact Hf0
    isplitl [Ht1] <;> iassumption
  isplitl [Hl]; · iexact Hl
  isplitl [HO]; · iexact HO
  iintro Hl HO
  iapply (steps_run X Y K c ax aw fx fw hx hw 6 (Nat.le_refl 6))
  isplitr; · iexact HR
  isplitr; · iexact Hlev
  unfold blocks
  isplitl [Hx Hw]; · isplitl [Hx] <;> iassumption
  isplitl [Hl]; · iexact Hl
  isplitl [HO]; · iexists _; iexact HO
  rw [show dues c (6 + 1) = 0 from dues_end c]
  iintro Hb Hl HO
  iapply (wp_fupd (wpE := wpE (defs₀ (F := F)) 𝒱₀ c none))
  iapply (lastStep_run X Y K c ax aw fx fw hx hw ao fo)
  isplitr; · iexact HR
  isplitr; · iexact Hlev
  isplitl [Hb]; · unfold blocks; iexact Hb
  isplitl [Hl]; · iexact Hl
  isplitl [Ho]; · iexact Ho
  isplitl [HO]; · iexact HO
  unfold blocks
  iintro Hb Hl ⟨Ht0, Hf0, Ht1, Hf1⟩ Ho HO
  imod (lanes_elim X Y K c) $$ [Hl] with ⟨Hz, Hrt, Hrf⟩
  · isplitr; · iexact HR
    iexact Hl
  ihave #HI := (recs_bar X Y K c) $$ HR
  imod (close X Y (K (barCell c)) (barCell c)) $$ [Ha] with Hz0
  · isplitr; · iexact HI
    iexact Ha
  imodintro
  iapply Hk $$ [Hz Hz0] [Hrt Hrf Ht0 Hf0 Ht1 Hf1] Hb Ho HO
  · unfold zeros
    isplitl [Hz0] <;> iassumption
  isplitl [Ht0 Hf0 Ht1 Hf1]
  · isplitl [Ht0 Ht1]
    · iapply (Entails.of_eq (show (stgAny true c : sProp 𝕄) = iprop(∃ f, (stgM true).view.loc (c : Thread nD τ) ↦[(stgM true).view.set]{fullShare} f) from rfl))
      iapply (stg_join true c)
      isplitl [Ht0] <;> iassumption
    · iapply (Entails.of_eq (show (stgAny false c : sProp 𝕄) = iprop(∃ f, (stgM false).view.loc (c : Thread nD τ) ↦[(stgM false).view.set]{fullShare} f) from rfl))
      iapply (stg_join false c)
      isplitl [Hf0] <;> iassumption
  isplitl [Hrt] <;> iassumption

end Run

end Cert.KernelIdeal.Ring

end
-- ==== Proof.Region.lean ====
/-
  The kernel as the program's one region: what it is entered with, what it leaves.
-/
module

public import proofs.«01_k».proof.Proof.Body
public import proofs.«01_k».proof.Proof.Gen.KernelIdeal.Frame

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

/-! ## The result buffer, entry by entry -/

section Result

variable (X : Dev nD → Vec F S8x256x256 .bf16) (Y : Dev nD → Vec F S256x2048 .bf16)

/-- The place of an entry of the result within its sub-block. -/
def within (z : S256x2048.Idx) : S256x512.Idx := fun a =>
  ⟨(![(z 0).val, (z 1).val % 512] : Fin 2 → ℕ) a, by
    fin_cases a
    · exact (z 0).isLt
    · exact Nat.mod_lt _ (by decide)⟩

/-- Which of its direction's sub-blocks an entry lies in. -/
def blockOf (z : S256x2048.Idx) : Fin 2 := ⟨(z 1).val % 1024 / 512, by have := Nat.mod_lt (z 1).val (show 0 < 1024 by decide); omega⟩

/-- The result: each entry from the sub-block it lies in. -/
def Out (c : Dev nD) : Vec F S256x2048 .f32 := fun z =>
  final X Y (decide ((z 1).val < 1024)) (blockOf z) c (within z)

variable (ao : Memref sig .tc .vmem S256x2048 .f32) (c : Dev nD)

theorem read_store_hit (d : Bool) (q : Fin 2) (f : Buf (Elt F) (ao.view.loc (c : Thread nD τ))) (w : Vec F S256x512 .f32) (z : S256x2048.Idx)
    (h : cond d 0 1024 + 512 * q.val + (z 1).val % 512 = (z 1).val) :
    ao.view.read (Elt F) ((ao.access (outR d q)).write (Elt F) f w Finset.univ) z = w (within z) := by
  have e : (outR d q).emb (within z) = z := funext fun a => Fin.ext (by
    rw [emb_val]
    fin_cases a
    · show 0 + (z 0).val = _; exact Nat.zero_add _
    · exact h)
  conv_lhs => rw [← e]
  exact View.read_slice_write_emb (v := ao.view) (outR d q) f w (Finset.mem_univ _)

theorem read_store_miss (d : Bool) (q : Fin 2) (f : Buf (Elt F) (ao.view.loc (c : Thread nD τ))) (w : Vec F S256x512 .f32) (z : S256x2048.Idx)
    (h : cond d 0 1024 + 512 * q.val + (z 1).val % 512 ≠ (z 1).val) :
    ao.view.read (Elt F) ((ao.access (outR d q)).write (Elt F) f w Finset.univ) z = ao.view.read (Elt F) f z :=
  View.read_slice_write_of_not_mem (v := ao.view) (outR d q) f w Finset.univ (fun hm => h (by
    obtain ⟨x, -, rfl⟩ := Finset.mem_map.mp hm
    rw [emb_val]
    have b : (x 1).val < 512 := (x 1).isLt
    show cond d 0 1024 + 512 * q.val + (cond d 0 1024 + 512 * q.val + (x 1).val) % 512 = cond d 0 1024 + 512 * q.val + (x 1).val
    cases d <;> simp only [cond] <;> omega))

theorem filled_read (f : Buf (Elt F) (ao.view.loc (c : Thread nD τ))) :
    ao.view.read (Elt F) (filled X Y c ao f) = Out X Y c := funext fun z => by
  have hz : (z 1).val < 2048 := (z 1).isLt
  have hm : ∀ (d : Bool) (q : Fin 2), cond d 0 1024 + 512 * q.val + (z 1).val % 512 = (z 1).val →
      final X Y d q c (within z) = Out X Y c z := fun d q h => by
    have hd : decide ((z 1).val < 1024) = d := by
      have := q.isLt
      cases d <;> simp only [cond] at h
      · exact decide_eq_false (by omega)
      · exact decide_eq_true (by omega)
    have hq : blockOf z = q := Fin.ext (by
      show (z 1).val % 1024 / 512 = q.val
      have := q.isLt
      cases d <;> simp only [cond] at h <;> omega)
    unfold Out
    rw [hd, hq]
  unfold filled
  by_cases h4 : cond false 0 1024 + 512 * (1 : Fin 2).val + (z 1).val % 512 = (z 1).val
  · rw [read_store_hit ao c false 1 _ _ z h4, hm _ _ h4]
  rw [read_store_miss ao c false 1 _ _ z h4]
  by_cases h3 : cond true 0 1024 + 512 * (1 : Fin 2).val + (z 1).val % 512 = (z 1).val
  · rw [read_store_hit ao c true 1 _ _ z h3, hm _ _ h3]
  rw [read_store_miss ao c true 1 _ _ z h3]
  by_cases h2 : cond false 0 1024 + 512 * (0 : Fin 2).val + (z 1).val % 512 = (z 1).val
  · rw [read_store_hit ao c false 0 _ _ z h2, hm _ _ h2]
  rw [read_store_miss ao c false 0 _ _ z h2]
  by_cases h1 : cond true 0 1024 + 512 * (0 : Fin 2).val + (z 1).val % 512 = (z 1).val
  · rw [read_store_hit ao c true 0 _ _ z h1, hm _ _ h1]
  · exact absurd hz (by simp only [cond, Fin.val_zero, Fin.val_one] at h1 h2 h3 h4; omega)

end Result

/-! ## The proof data -/

variable (m : (ℓ : Loc nD τ sig) → Buf (Elt F) ℓ)

/-- The activations' rows a device holds, block by block, as the region finds them. -/
def actIn (c : Dev nD) : Vec F S8x256x256 .bf16 := iblk m c 0 t0_0
/-- The weights a device holds. -/
def wgtIn (c : Dev nD) : Vec F S256x2048 .bf16 := iblk m c 1 t0_0
/-- What a device computes. -/
def outVal (c : Dev nD) : Vec F S256x2048 .f32 := Out (actIn m) (wgtIn m) c

/-- Before the body: the protocol's share, the levels, the scratch buffers. -/
def before (c : Dev nD) : sProp 𝕄 :=
  iprop((∃ K, recs (actIn m) (wgtIn m) K) ∗ levAts L lv ∗ kit c)

/-- The invariant of the region's one point. -/
def phi (c : Dev nD) (n : ℕ) : sProp 𝕄 :=
  if n = 0 then iprop(before m c ∗ scratch c ∗ ∃ r, prngReg c r) else iprop(zeros c ∗ scratch c ∗ ∃ r, prngReg c r)

def dat (c : Dev nD) : Dat τ (Elt F) Unit ℕ UU ℕ cfg0 c where
  A w := V m c (Pipeline.arrRef spec0 w)
  after := fun
    | 0, t => iblk m c 0 t
    | 1, t => iblk m c 1 t
    | 2, _ => outVal m c
  Φ t := phi m c t.val
  q _ := fullShare
  owed t := if t.val = 0 then owed₀ c else 0

theorem phi_first (c : Dev nD) : phi m c 0 = iprop(before m c ∗ scratch c ∗ ∃ r, prngReg c r) := by unfold phi; exact if_pos rfl
theorem phi_last (c : Dev nD) : phi m c 1 = iprop(zeros c ∗ scratch c ∗ ∃ r, prngReg c r) := by unfold phi; exact if_neg Nat.one_ne_zero

theorem fin_0 (t : Fin cfg0.N) : t = t0_0 := fin_N0 t

theorem owed_first (c : Dev nD) : (dat m c).owed (t0_0 : Fin cfg0.N).castSucc = owed₀ c := by
  show (if ((t0_0 : Fin cfg0.N).castSucc : Fin (cfg0.N + 1)).val = 0 then owed₀ c else 0) = owed₀ c; exact if_pos rfl
theorem owed_zero (c : Dev nD) : (dat m c).owed 0 = owed₀ c := by
  show (if (0 : Fin (cfg0.N + 1)).val = 0 then owed₀ c else 0) = owed₀ c; exact if_pos rfl
theorem owed_last (c : Dev nD) : (dat m c).owed (Fin.last _) = 0 := by
  show (if (Fin.last cfg0.N).val = 0 then owed₀ c else 0) = 0
  rw [Fin.val_last, if_neg (by rw [show cfg0.N = 1 from N_0]; decide)]
theorem owed_succ (c : Dev nD) : (dat m c).owed (t0_0 : Fin cfg0.N).succ = 0 := by
  show (if ((t0_0 : Fin cfg0.N).succ : Fin (cfg0.N + 1)).val = 0 then owed₀ c else 0) = 0
  exact if_neg (Nat.succ_ne_zero _)

theorem owes_in (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound; rw [h]
  iintro HO; iexists W
  isplitr
  · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

theorem before_act (c : Dev nD) (t : Fin cfg0.N) (d) : (dat m c).before 0 t d = iblk m c 0 t :=
  ((dat m c).before_in_eq_fetched 0 rfl (fun _ => rfl) (fun _ _ _ => rfl) (fun _ => rfl) t d).trans rfl
theorem before_wgt (c : Dev nD) (t : Fin cfg0.N) (d) : (dat m c).before 1 t d = iblk m c 1 t :=
  ((dat m c).before_in_eq_fetched 1 rfl (fun _ => rfl) (fun _ _ _ => rfl) (fun _ => rfl) t d).trans rfl

set_option maxRecDepth 16384 in
theorem body_ob (c : Dev nD) : BodyObligation (dat m c) (defs₀ (F := F)) 𝒱₀ () Set.univ := fun t => by
  rw [fin_0 t]
  rw [bigSep_W0, bigSep_W0]
  rw [show (dat m c).Φ (t0_0 : Fin cfg0.N).castSucc = iprop(before m c ∗ scratch c ∗ ∃ r, prngReg c r) from phi_first m c,
    show (dat m c).Φ (t0_0 : Fin cfg0.N).succ = iprop(zeros c ∗ scratch c ∗ ∃ r, prngReg c r) from phi_last m c]
  show iprop(_ ∗ _ ∗ (∃ d, owns (c : Thread nD τ) (st0_0 t0_0) fullShare ((dat m c).before 0 t0_0 d))
      ∗ (∃ d, owns (c : Thread nD τ) (st0_1 t0_0) fullShare ((dat m c).before 1 t0_0 d))
      ∗ (∃ d, owns (c : Thread nD τ) (st0_2 t0_0) fullShare ((dat m c).before 2 t0_0 d)))
    ⊢ wp frame (wpE (defs₀ (F := F)) 𝒱₀ c none) Set.univ (bodyAt0 t0_0) fun _ =>
      iprop(_ ∗ _ ∗ owns (c : Thread nD τ) (st0_0 t0_0) fullShare (iblk m c 0 t0_0)
        ∗ owns (c : Thread nD τ) (st0_1 t0_0) fullShare (iblk m c 1 t0_0)
        ∗ owns (c : Thread nD τ) (st0_2 t0_0) fullShare (outVal m c))
  unfold bodyAt0
  rw [body_eq]
  unfold before owns
  iintro ⟨⟨⟨⟨%K, #HR⟩, #Hlev, HK⟩, Hscr, Hreg⟩, HO, ⟨%d0, %f0, %h0, Hx⟩, ⟨%d1, %f1, %h1, Hw⟩, ⟨%d2, %f2, %h2, Hout⟩⟩
  rw [before_act] at h0
  rw [before_wgt] at h1
  ihave HO' := (owes_out m c _ (owed₀ c) (owed_first m c)) $$ HO
  icases HO' with ⟨%W, HO⟩
  iapply (body_run (actIn m) (wgtIn m) K c (st0_0 t0_0) (st0_1 t0_0) (st0_2 t0_0) f0 f1 f2 h0 h1 W _)
  isplitr; · iexact HR
  isplitr; · iexact Hlev
  isplitl [HK]; · iexact HK
  isplitl [Hscr]; · iexact Hscr
  isplitl [Hx Hw]
  · unfold blocks
    isplitl [Hx] <;> iassumption
  isplitl [Hout]; · iexact Hout
  isplitl [HO]; · iexact HO
  iintro Hz Hscr Hb Hout ⟨%W', HO⟩
  unfold blocks
  icases Hb with ⟨Hx, Hw⟩
  isplitl [Hz Hscr Hreg]
  · isplitl [Hz]; · iexact Hz
    isplitl [Hscr] <;> iassumption
  isplitl [HO]
  · iapply (owes_in m c _ 0 (owed_succ m c) W'); iexact HO
  isplitl [Hx]
  · iexists f0
    isplitr
    · ipureintro; exact h0
    iexact Hx
  isplitl [Hw]
  · iexists f1
    isplitr
    · ipureintro; exact h1
    iexact Hw
  · iexists (filled (actIn m) (wgtIn m) c (st0_2 t0_0) f2)
    isplitr
    · ipureintro; exact filled_read (actIn m) (wgtIn m) (st0_2 t0_0) c f2
    iexact Hout

end Cert.KernelIdeal.Ring

end
-- ==== Proof.Launch.lean ====
/-
  The launch: every cell's invariant, what each device starts with, the region, and the run of the whole program.
-/
module

public import proofs.«01_k».proof.Proof.Region
public import Idealize.ShloMosaic.Lib.Pipeline.RegionTalk
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Cells and their keys -/

theorem sep_swap (A B : sProp 𝕄) : iprop(A ∗ B) = iprop(B ∗ A) := BI.equiv_iff.mp ⟨BI.sep_comm, BI.sep_comm⟩

theorem sep_pairs {I : Type} [Fintype I] (Φ Ψ : I → sProp 𝕄) :
    iprop(bigSep Finset.univ Φ ∗ bigSep Finset.univ Ψ) ⊢ bigSep Finset.univ fun i => iprop(Φ i ∗ Ψ i) := Entails.of_eq (bigSep_sep' ..).symm
theorem un_pairs {I : Type} [Fintype I] (Φ Ψ : I → sProp 𝕄) :
    (bigSep Finset.univ fun i => iprop(Φ i ∗ Ψ i)) ⊢ iprop(bigSep Finset.univ Φ ∗ bigSep Finset.univ Ψ) := Entails.of_eq (bigSep_sep' ..)

/-- The keys, copy by copy: its departure, its landing. -/
theorem key_eq (Φ : Key → sProp 𝕄) :
    bigSep Finset.univ Φ = bigSep Finset.univ fun x : Copy => iprop(Φ (false, x) ∗ Φ (true, x)) := by
  rw [bigSep_univ_prod, bool_eq, sep_swap, ← bigSep_sep']

theorem keyCell_inj {k k' : Key} {c c' : Dev nD} (h : keyCell k c = keyCell k' c') : k = k' ∧ c = c' := by
  have h1 : c = c' := congrArg (fun g : GSem nD τ sig => g.1.1) h
  have h2 : SemLoc.dma (keySem k) = SemLoc.dma (keySem k') := congrArg Prod.snd h
  have h3 : keySem k = keySem k' := by injection h2
  exact ⟨by rw [← semKey_keySem k, h3, semKey_keySem], h1⟩

theorem key_ne_bar (k : Key) (c c' : Dev nD) : keyCell k c ≠ barCell c' := fun h => by
  have h2 : (SemLoc.dma (keySem k) : SemLoc sig) = SemLoc.reg barrier0 := congrArg Prod.snd h
  cases h2

theorem bar_inj {c c' : Dev nD} (h : barCell c = barCell c') : c = c' := congrArg (fun g : GSem nD τ sig => g.1.1) h

/-- The kernel's own counters. -/
abbrev osem (k : Key) : SemLoc sig := .dma (keySem k)

theorem own_facts : Pipeline.OwnSemFacts spec0 osem := by decide +kernel

theorem ownSems_eq (c : Dev nD) : (Pipeline.ownSems0 osem c : sProp 𝕄)
    = bigSep Finset.univ fun x : Copy => iprop(semVal (sndCell x.1 x.2.1 x.2.2 c) 0 ∗ semVal (rcvCell x.1 x.2.1 x.2.2 c) 0) := by
  unfold Pipeline.ownSems0
  rw [key_eq]

/-! ## Opening the cells at the region's entry -/

/-- What a device has for a copy while its cells are shut. -/
def shut1 (c : Dev nD) (x : Copy) : sProp 𝕄 :=
  iprop((openTok ER (sndCell x.1 x.2.1 x.2.2 c) ∗ openTok ER (rcvCell x.1 x.2.1 x.2.2 c))
    ∗ (dutyTok ER (sndCell x.1 x.2.1 x.2.2 c) 0 true ∗ dutyTok ER (rcvCell x.1 x.2.1 x.2.2 (tgt x.1 c)) 0 true)
    ∗ cred (tallyAt (rcvCell x.1 x.2.1 x.2.2 c) () N))

/-- The protocol's share of a device while its cells are shut. -/
def shut (c : Dev nD) : sProp 𝕄 := iprop(shakeKit c ∗ bigSep Finset.univ (shut1 c))

def entry (c : Dev nD) : sProp 𝕄 := iprop((∃ K, recs (actIn m) (wgtIn m) K) ∗ shut c)

variable (X : Dev nD → Vec F S8x256x256 .bf16) (Y : Dev nD → Vec F S256x2048 .bf16)

theorem open_copy (K : GSem nD τ sig → ℕ) (c : Dev nD) (x : Copy) :
    iprop(recs X Y K ∗ (shut1 c x ∗ semVal (sndCell x.1 x.2.1 x.2.2 c) 0 ∗ semVal (rcvCell x.1 x.2.1 x.2.2 c) 0))
      ⊢ (|={Set.univ}=> ready c x : sProp 𝕄) := by
  unfold shut1 ready waits
  iintro ⟨#HR, ⟨⟨Ho1, Ho2⟩, ⟨Ht1, Ht2⟩, Hc⟩, Hv1, Hv2⟩
  ihave #HI1 := (recs_key X Y K (false, x.1, x.2.1, x.2.2) c) $$ HR
  ihave #HI2 := (recs_key X Y K (true, x.1, x.2.1, x.2.2) c) $$ HR
  imod (Rounds.cell_open ER (ringRd X Y) (g := sndCell x.1 x.2.1 x.2.2 c) (Set.mem_univ (K (sndCell x.1 x.2.1 x.2.2 c)))) $$ [Ho1 Hv1] with ⟨Ha1, #Hr1⟩
  · isplitr; · iexact HI1
    isplitl [Ho1] <;> iassumption
  imod (Rounds.cell_open ER (ringRd X Y) (g := rcvCell x.1 x.2.1 x.2.2 c) (Set.mem_univ (K (rcvCell x.1 x.2.1 x.2.2 c)))) $$ [Ho2 Hv2] with ⟨Ha2, #Hr2⟩
  · isplitr; · iexact HI2
    isplitl [Ho2] <;> iassumption
  imodintro
  isplitl [Ha1 Ha2 Hc Ht1 Ht2]
  · isplitl [Ha1 Ha2 Hc]
    · isplitl [Ha1]; · iexact Ha1
      isplitl [Ha2] <;> iassumption
    isplitl [Ht1]; · iexact Ht1
    isplitr; · iexact Hr1
    iexact Ht2
  iexact Hr2

theorem open_all (c : Dev nD) : iprop(entry m c ∗ Pipeline.ownSems0 osem c ∗ levAts L lv) ⊢ (|={Set.univ}=> before m c : sProp 𝕄) := by
  rw [ownSems_eq]
  unfold entry shut before kit
  iintro ⟨⟨⟨%K, #HR⟩, Hk, Hs⟩, Hv, #Hlev⟩
  have h : iprop(recs (actIn m) (wgtIn m) K ∗ bigSep Finset.univ (shut1 c)
        ∗ bigSep Finset.univ fun x : Copy => iprop(semVal (sndCell x.1 x.2.1 x.2.2 c) 0 ∗ semVal (rcvCell x.1 x.2.1 x.2.2 c) 0))
      ⊢ (|={Set.univ}=> bigSep Finset.univ (ready c) : sProp 𝕄) :=
    ((BIClass.sep_mono (BI.Entails.refl _) (sep_pairs _ _)).trans
      (bigSep_with_persistent (R := recs (actIn m) (wgtIn m) K) fun x _ => open_copy (actIn m) (wgtIn m) K c x)).trans (bigSep_fupd _ _)
  ihave Hu := h $$ [Hs Hv]
  · isplitr; · iexact HR
    isplitl [Hs] <;> iassumption
  imod Hu
  imodintro
  isplitr
  · iexists K; iexact HR
  isplitr; · iexact Hlev
  isplitl [Hk] <;> iassumption

/-! ## The region -/

theorem stg_whole (d : Bool) (c : Dev nD) :
    (stgAny d c : sProp 𝕄) = iprop(∃ f, (stgM d).view.loc (c : Thread nD τ) ↦{fullShare} f) := by
  unfold stgAny
  rw [(stgM_whole d).set_eq_univ]
theorem rcv_whole (d : Bool) (c : Dev nD) :
    (rcvAny d c : sProp 𝕄) = iprop(∃ f, (rcvM d).view.loc (c : Thread nD τ) ↦{fullShare} f) := by
  unfold rcvAny
  rw [(rcvM_whole d).set_eq_univ]

theorem sep_reassoc (A B C : sProp 𝕄) : iprop((A ∗ B) ∗ C) = iprop(A ∗ B ∗ C) := by
  have h : ∀ A B C : sProp 𝕄, iprop((A ∗ B) ∗ C) ⊢ iprop(A ∗ B ∗ C) := fun A B C => by
    iintro ⟨⟨H1, H2⟩, H3⟩
    isplitl [H1]; · iexact H1
    isplitl [H2] <;> iassumption
  have h' : ∀ A B C : sProp 𝕄, iprop(A ∗ B ∗ C) ⊢ iprop((A ∗ B) ∗ C) := fun A B C => by
    iintro ⟨H1, H2, H3⟩
    isplitl [H1 H2]; · isplitl [H1] <;> iassumption
    iexact H3
  exact BI.equiv_iff.mp ⟨h A B C, h' A B C⟩

theorem scratch_eq (c : Dev nD) : (Pipeline.scopedRest (Pipeline.pin (pcfgs (F := F)) (fun p => (cfgs p).toPCfg_adm) 0).spec c : sProp 𝕄) = scratch c := by
  refine (scopedRest0_eq c).trans ?_
  unfold scratch
  rw [stg_whole, stg_whole, rcv_whole, rcv_whole, sep_reassoc]
  rfl

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat m

/-- The buffers of the program that outlive the kernel. -/
def bufs : Finset (DevRef τ sig) := (StableHlo.tcRefs τ sig).filter fun b => ¬ b.isScoped
/-- Those of them that are the kernel's operands and result. -/
abbrev arrs : Finset (DevRef τ sig) := Pipeline.arrRefs (τ := τ) spec0
/-- The others. -/
abbrev others : Finset (DevRef τ sig) := bufs \ arrs

theorem arrs_sub : arrs ⊆ bufs := by decide +kernel
theorem out_mem : (Proc.devRef .tc main_v2 : DevRef τ sig) ∈ arrs := by decide +kernel

/-- The contents at launch. -/
def val0 (c : Dev nD) : Valuation τ sig (Elt F) := fun b => m (c, b)
/-- The contents when the region is entered. -/
def val1 (c : Dev nD) : Valuation τ sig (Elt F) := StableHlo.after hostOps0 (val0 m c)
/-- The result buffer's contents after the region. -/
def outBuf (c : Dev nD) : Buf (Elt F) ((c : Thread nD τ).loc main_v2) := (dat m c).arrAt 2 cfg0.N
/-- The contents when the region is left. -/
def val2 (c : Dev nD) : Valuation τ sig (Elt F) := Function.update (val1 m c) (Proc.devRef .tc main_v2) (outBuf m c)

theorem val2_out (c : Dev nD) : val2 m c (Proc.devRef .tc main_v2) = outBuf m c := Function.update_self ..
theorem val2_ne (c : Dev nD) (b : DevRef τ sig) (h : b ≠ Proc.devRef .tc main_v2) : val2 m c b = val1 m c b := Function.update_of_ne h ..

theorem arr_first (c : Dev nD) (w : Fin cfg0.W) : (dat m c).arrAt w 0 = val1 m c (Proc.devRef .tc (Pipeline.arrRef spec0 w)) := rfl

theorem arr_last (c : Dev nD) : ∀ w : Fin 3, (dat m c).arrAt w cfg0.N = val2 m c (Proc.devRef .tc (Pipeline.arrRef spec0 w))
  | 0 => ((dat m c).arrAt_in 0 rfl cfg0.N).trans (val2_ne m c (Proc.devRef .tc (Pipeline.arrRef spec0 0)) (by decide)).symm
  | 1 => ((dat m c).arrAt_in 1 rfl cfg0.N).trans (val2_ne m c (Proc.devRef .tc (Pipeline.arrRef spec0 1)) (by decide)).symm
  | 2 => (val2_out m c).symm

theorem above_owed (c : Dev nD) : Above 0 (owed₀ c) :=
  (((dues_above c 0).mono (by omega)).add (Above.at rfl (by rw [lv_bar]; decide))).add (Above.at rfl (by rw [lv_bar]; decide))

theorem owed_cut (c : Dev nD) (t : Fin (cfg0.N + 1)) : Above 0 ((dat m c).owed t) := by
  show Above 0 (if t.val = 0 then owed₀ c else 0)
  split
  · exact above_owed c
  · exact Above.zero 0

theorem region_in (c : Dev nD) :
    iprop(Pipeline.scopedRest (Pipeline.pin (pcfgs (F := F)) adm 0).spec c ∗ (∃ r, prngReg c r) ∗ StableHlo.held (c.tc : Thread nD τ) ∅ (val1 m c) ∗ before m c)
      ⊢ (pdats m 0 c).Φ 0 := by
  rw [show (pdats m 0 c).Φ 0 = phi m c 0 from rfl, phi_first, scratch_eq]
  iintro ⟨Hs, Hp, -, Hb⟩
  isplitl [Hb]; · iexact Hb
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (val2 m c)
        ∗ Pipeline.ownSems0 osem c ∗ semVal (barCell c) 0) := by
  rw [show (pdats m 0 c).Φ (Fin.last (Pipeline.pin (pcfgs (F := F)) adm 0).N) = phi m c 1 from congrArg (phi m c) N_0, phi_last, scratch_eq, ownSems_eq]
  unfold zeros StableHlo.held
  rw [BI.bigSep_empty]
  iintro ⟨⟨Hb, Hz⟩, Hs, Hp⟩
  isplitl [Hs]; · iexact Hs
  isplitl [Hp]; · iexact Hp
  isplitr; · iempintro
  isplitl [Hz] <;> iassumption

theorem stage_below : ∀ (w : Fin 3) (s : Fin (spec0 w).nbuf), ¬ 3 ≤ ((spec0 w).sem s).val := by decide +kernel
theorem stage_low (c : Dev nD) (w : Fin 3) (s : Fin (spec0 w).nbuf) : lv ((c : Thread nD τ), .dma ((spec0 w).sem s)) () = 0 := by
  dsimp only [lv]; rw [if_neg (fun h => stage_below w s h.1)]

theorem share_full (c : Dev nD) (w : Fin cfg0.W) : (dat m c).share w = fullShare := by unfold Dat.share; split <;> rfl

set_option backward.isDefEq.respectTransparency.types false in
/-- The kernel's region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) (launch0.toP) rfl (fun c => (body_ob m c).loose)
    (fun _ => 0) owed₀ (fun c => (owed_zero m c).trans (zero_add _).symm) (fun c => owed_last m c) (fun _ => rfl) (fun c w => share_full m c w)
    (val1 m) (val2 m) (fun c b hb => val2_ne m c b (fun e => by
      rw [Finset.sdiff_empty] at hb
      exact (Finset.mem_sdiff.mp hb).2 (e ▸ out_mem)))
    (entry m) (fun c => semVal (barCell c) 0) (before m) (fun c => semVal (barCell c) 0) (open_all m) (region_in m) (region_out m)
    (fun c => by iintro H; imodintro; iexact H)
    (fun _ => 0)
    ⟨fun c w s => by rw [L_tc]; exact Finset.mem_singleton_self _, fun c w s => (stage_low c w s).le, fun c t g i h => by
      obtain ⟨h1, h2⟩ := owed_cut m c t g i h
      refine ⟨?_, h2⟩
      unfold L; rw [if_pos h1]; exact Finset.mem_singleton_self _⟩
    (fun _ => iprop(emp))
    (arr_first m) (arr_last m)

end Cert.KernelIdeal.Ring

end
-- ==== Proof.Run.lean ====
/-
  The run of the whole program: the launch, the host's reshape, the region.
-/
module

public import proofs.«01_k».proof.Proof.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties at launch -/

def barEmb : Dev nD ↪ GSem nD τ sig := ⟨fun c => barCell c, fun _ _ h => bar_inj h⟩
def keyEmb : Key × Dev nD ↪ GSem nD τ sig :=
  ⟨fun kc => keyCell kc.1 kc.2, fun _ _ h => Prod.ext (keyCell_inj h).1 (keyCell_inj h).2⟩

abbrev barCells : Finset (GSem nD τ sig) := Finset.univ.map barEmb
abbrev keyCells : Finset (GSem nD τ sig) := Finset.univ.map keyEmb

theorem cells_apart : Disjoint (barCells : Finset (GSem nD τ sig)) keyCells := by
  rw [Finset.disjoint_left]
  rintro g h₁ h₂
  obtain ⟨c, -, rfl⟩ := Finset.mem_map.mp h₁
  obtain ⟨kc, -, h⟩ := Finset.mem_map.mp h₂
  exact key_ne_bar kc.1 kc.2 c h

/-- A duty of the protocol: at a barrier by either neighbour, at a key's cell. -/
def dutyOf : (Bool ⊕ Key) × Dev nD → GSem nD τ sig × ℕ × Bool
  | (.inl b, c) => (barCell c, 0, b)
  | (.inr k, c) => (keyCell k c, 0, true)

theorem dutyOf_inj : Function.Injective dutyOf := by
  rintro ⟨b | k, c⟩ ⟨b' | k', c'⟩ h
  · have h1 := bar_inj (congrArg Prod.fst h)
    have h2 : b = b' := congrArg (fun t : GSem nD τ sig × ℕ × Bool => t.2.2) h
    subst h1; subst h2; rfl
  · exact absurd (congrArg Prod.fst h).symm (key_ne_bar k' c' c)
  · exact absurd (congrArg Prod.fst h) (key_ne_bar k c c')
  · obtain ⟨h1, h2⟩ := keyCell_inj (congrArg Prod.fst h)
    subst h1; subst h2; rfl

def duties : Finset (GSem nD τ sig × ℕ × Bool) := Finset.univ.map ⟨dutyOf, dutyOf_inj⟩

/-- The launch element of the ghost state. -/
def seed : UU :=
  (initOf (Pipeline.cells (Pipeline.pin (pcfgs (F := F)) adm) cellOf_inj) (Pipeline.launchToks (Pipeline.pin (pcfgs (F := F)) adm) cellOf_inj),
    launchOf barCells keyCells duties)

/-- All of a resource on the first device. -/
def onFirst (R : sProp 𝕄) (c : Dev nD) : sProp 𝕄 := if c = 0 then R else iprop(emp)
theorem all_onFirst (R : sProp 𝕄) : bigSep Finset.univ (onFirst R) = R := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def ghost : Dev nD → sProp 𝕄 := onFirst (BI.own (ER (launchOf barCells keyCells duties)))

/-! ## Dealing the duties' tokens to those who pay them -/

/-- A direction as a rotation of the devices. -/
def turnOf (d : Bool) : Dev nD ≃ Dev nD := ⟨tgt d, srcOf d, srcOf_tgt d, tgt_srcOf d⟩

/-- What a device pays of the copies. -/
def pays (c : Dev nD) (x : Copy) : sProp 𝕄 :=
  iprop(dutyTok ER (sndCell x.1 x.2.1 x.2.2 c) 0 true ∗ dutyTok ER (rcvCell x.1 x.2.1 x.2.2 (tgt x.1 c)) 0 true)

theorem tokens :
    bigSep duties (fun x => (dutyTok ER x.1 x.2.1 x.2.2 : sProp 𝕄))
      ⊢ iprop((bigSep Finset.univ fun c : Dev nD => iprop(dutyTok ER (barCell (tgt false c)) 0 true ∗ dutyTok ER (barCell (tgt true c)) 0 false))
          ∗ bigSep Finset.univ fun c : Dev nD => bigSep Finset.univ (pays c)) := by
  refine Entails.of_eq ?_
  unfold duties
  rw [bigSep_map, bigSep_univ_prod, BI.bigSep_univ_sum, bool_eq, key_eq]
  have e1 : (bigSep Finset.univ fun c : Dev nD => (dutyTok ER (barCell c) 0 true : sProp 𝕄))
      = bigSep Finset.univ fun c : Dev nD => dutyTok ER (barCell (tgt false c)) 0 true :=
    bigSep_univ_equiv (turnOf false) fun c : Dev nD => (dutyTok ER (barCell c) 0 true : sProp 𝕄)
  have e2 : (bigSep Finset.univ fun c : Dev nD => (dutyTok ER (barCell c) 0 false : sProp 𝕄))
      = bigSep Finset.univ fun c : Dev nD => dutyTok ER (barCell (tgt true c)) 0 false :=
    bigSep_univ_equiv (turnOf true) fun c : Dev nD => (dutyTok ER (barCell c) 0 false : sProp 𝕄)
  have e3 : ∀ x : Copy, (bigSep Finset.univ fun c : Dev nD => (dutyTok ER (rcvCell x.1 x.2.1 x.2.2 c) 0 true : sProp 𝕄))
      = bigSep Finset.univ fun c : Dev nD => dutyTok ER (rcvCell x.1 x.2.1 x.2.2 (tgt x.1 c)) 0 true := fun x =>
    bigSep_univ_equiv (turnOf x.1) fun c : Dev nD => (dutyTok ER (rcvCell x.1 x.2.1 x.2.2 c) 0 true : sProp 𝕄)
  refine congr (congrArg BI.sep ?_) ?_
  · rw [bigSep_sep', ← e1, ← e2]; rfl
  · rw [Pipeline.bigSep_univ_comm (fun (c : Dev nD) (x : Copy) => pays c x)]
    refine Eq.trans ?_ (bigSep_congr fun x _ => (by unfold pays; rw [bigSep_sep', ← e3] :
      (iprop((bigSep Finset.univ fun c : Dev nD => dutyTok ER (keyCell (false, x) c) 0 true) ∗ (bigSep Finset.univ fun c : Dev nD => dutyTok ER (keyCell (true, x) c) 0 true)) : sProp 𝕄)
        = bigSep Finset.univ fun c => pays c x))
    first | rfl | (rw [bigSep_sep']; rfl)

/-! ## The credit at launch -/

theorem dues_all (d : Dev nD) : dues d 0 = ∑ x : Copy, tallyAt (rcvCell x.1 x.2.1 x.2.2 (tgt x.1 d)) () N := by
  have e : ∀ (b : Bool) (q : Fin 2), due b q d 0 = ∑ s : Fin 7, tallyAt (rcvCell b s q (tgt b d)) () N := fun b q => by
    unfold due
    rw [Finset.filter_true_of_mem fun s _ => Nat.zero_le _]
  unfold dues dues4
  rw [e, e, e, e, Fintype.sum_prod_type, Fintype.sum_bool, Fintype.sum_prod_type, Fintype.sum_prod_type]
  simp only [Fin.sum_univ_two, Finset.sum_add_distrib]
  simp only [add_assoc]
  refine congrArg _ ?_
  rw [← add_assoc, add_comm (∑ s : Fin 7, tallyAt (rcvCell false s 0 (tgt false d)) () N), add_assoc]

theorem owed_at_bar (d c : Dev nD) : owed₀ d (barCell c) () = (if d = srcOf true c then 1 else 0) + (if d = srcOf false c then 1 else 0) := by
  have z : dues d 0 (barCell c) () = 0 := by
    rw [dues_all, Finset.sum_apply, Finsupp.finset_sum_apply]
    exact Finset.sum_eq_zero fun x _ => by rw [tallyAt_apply, if_neg fun h => key_ne_bar _ _ _ h.1.symm]
  have e : ∀ b : Bool, (tallyAt (barCell (tgt b d)) () 1 : CellTallies nD τ sig Unit) (barCell c) () = if d = srcOf b c then 1 else 0 := fun b => by
    rw [tallyAt_apply]
    refine if_congr ⟨fun h => ?_, fun h => ⟨?_, rfl⟩⟩ rfl rfl
    · rw [bar_inj h.1, srcOf_tgt]
    · rw [h, tgt_srcOf]
  unfold owed₀
  rw [Pi.add_apply, Finsupp.add_apply, Pi.add_apply, Finsupp.add_apply, z, e, e, Nat.zero_add]

theorem owed_at_key (d c : Dev nD) (x : Copy) : owed₀ d (rcvCell x.1 x.2.1 x.2.2 c) () = if d = srcOf x.1 c then N else 0 := by
  have e : ∀ b : Bool, (tallyAt (barCell (tgt b d)) () 1 : CellTallies nD τ sig Unit) (rcvCell x.1 x.2.1 x.2.2 c) () = 0 := fun b => by
    rw [tallyAt_apply, if_neg fun h => key_ne_bar _ _ _ h.1]
  unfold owed₀
  rw [Pi.add_apply, Finsupp.add_apply, Pi.add_apply, Finsupp.add_apply, e, e, add_zero, add_zero, dues_all, Finset.sum_apply,
    Finsupp.finset_sum_apply, Finset.sum_eq_single x]
  · rw [tallyAt_apply]
    refine if_congr ⟨fun h => ?_, fun h => ⟨?_, rfl⟩⟩ rfl rfl
    · rw [(keyCell_inj h.1).2, srcOf_tgt]
    · rw [h, tgt_srcOf]
  · intro y _ hy
    rw [tallyAt_apply, if_neg fun h => hy (congrArg Prod.snd (keyCell_inj h.1).1).symm]
  · exact fun h => absurd (Finset.mem_univ x) h

theorem credit_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_add_distrib,
    Finset.sum_ite_eq' Finset.univ (srcOf true c) fun _ => 1, Finset.sum_ite_eq' Finset.univ (srcOf false c) fun _ => 1,
    if_pos (Finset.mem_univ _), if_pos (Finset.mem_univ _)]

theorem credit_key (c : Dev nD) (x : Copy) :
    tallyOn (rcvCell x.1 x.2.1 x.2.2 c) (launchCredit (Pipeline.owing owed₀) 0 (rcvCell x.1 x.2.1 x.2.2 c))
      = (tallyAt (rcvCell x.1 x.2.1 x.2.2 c) () N : CellTallies nD τ sig Unit) := by
  unfold tallyAt; refine congrArg _ (Finsupp.ext fun u => ?_); cases u
  rw [Pipeline.launchCredit_owing, Finsupp.single_eq_same, Finset.sum_congr rfl fun d _ => owed_at_key d c x,
    Finset.sum_ite_eq' Finset.univ (srcOf x.1 c) fun _ => N, if_pos (Finset.mem_univ _)]

/-- The semaphores counting landings. -/
def landEmb : Copy ↪ SemLoc sig := ⟨fun x => .dma (keySem (true, x)), fun x y h => by
  have h' : keySem (true, x) = keySem (true, y) := by injection h
  have := congrArg semKey h'
  rw [semKey_keySem, semKey_keySem] at this
  exact congrArg Prod.snd this⟩

theorem credits (c : Dev nD) :
    (Pipeline.launchCred owed₀ c : sProp 𝕄)
      ⊢ iprop(cred (tallyAt (barCell c) () 2) ∗ bigSep Finset.univ fun x : Copy => cred (tallyAt (rcvCell x.1 x.2.1 x.2.2 c) () N)) := by
  unfold Pipeline.launchCred
  rw [bigSep_univ_at _ (SemLoc.reg barrier0), credit_bar]
  refine sep_mono_right ?_
  have e : (bigSep Finset.univ fun x : Copy => (cred (tallyAt (rcvCell x.1 x.2.1 x.2.2 c) () N) : sProp 𝕄))
      = bigSep (Finset.univ.map landEmb) fun sm : SemLoc sig =>
          cred (tallyOn ((c : Thread nD τ), sm) (launchCredit (Pipeline.owing owed₀) 0 ((c : Thread nD τ), sm))) := by
    rw [bigSep_map]
    exact bigSep_congr fun x _ => by rw [← credit_key]; rfl
  rw [e]
  exact BI.bigSep_subset fun sm h => by
    obtain ⟨x, -, rfl⟩ := Finset.mem_map.mp h
    exact Finset.mem_erase.mpr ⟨fun h => by
      have h' : SemLoc.dma (keySem (true, x)) = SemLoc.reg barrier0 := h
      injection h', Finset.mem_univ _⟩

/-! ## The host's part -/

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide +kernel
theorem ops_fresh : ∀ op ∈ (hostOps0 : List (HloOp τ sig (Elt F))), op.fresh = ∅ := fun op h => by
  simp only [hostOps0, List.mem_singleton] at h; subst h; rfl

/-- What rides along the host's part. -/
def rides (c : Dev nD) : sProp 𝕄 := iprop(entry m c ∗ (∃ r, prngReg c r) ∗ ∃ W, owes (c : Thread nD τ) (owed₀ c) W)

def seg0 : Pipeline.HostSeg (Name := ℕ) (U := UU) (pcfgs (F := F)) defs₀ 𝒱₀ L lv :=
  Pipeline.HostSeg.ofOps _ _ _ _ _ bufs hostOps0 ops_sub ops_fresh (val0 m) (rides m)

def segs : List (Pipeline.Seg (pcfgs (F := F)) adm (pdats m) () defs₀ 𝒱₀ L lv) := [.host (seg0 m), .region (reg0 m)]

theorem reg0_pre (c : Dev nD) : iprop(StableHlo.held (c : Thread nD τ) bufs (val1 m c) ∗ rides m c) ⊢ (reg0 m).pre c := by
  show _ ⊢ iprop(StableHlo.held (c.tc : Thread nD τ) arrs (val1 m c) ∗ (∃ r, prngReg c r)
    ∗ (StableHlo.held (c.tc : Thread nD τ) others (val1 m c) ∗ emp) ∗ entry m c ∗ ∃ Wd, owes (c : Thread nD τ) (0 + owed₀ c) Wd)
  rw [zero_add, StableHlo.held_sub_split (c.tc : Thread nD τ) arrs_sub]
  unfold rides
  iintro ⟨⟨Ha, Hr⟩, He, Hp, HO⟩
  isplitl [Ha]; · iexact Ha
  isplitl [Hp]; · iexact Hp
  isplitl [Hr]
  · isplitl [Hr]; · iexact Hr
    iempintro
  isplitl [He] <;> iassumption

theorem reg0_post (c : Dev nD) : (reg0 m).post c
    ⊢ iprop((StableHlo.held (c : Thread nD τ) bufs (val2 m c) ∗ semVal (barCell c) 0)
        ∗ ∃ W, owes (c : Thread nD τ) (0 : CellTallies nD τ sig Unit) W) := by
  show iprop(StableHlo.held (c.tc : Thread nD τ) arrs (val2 m c) ∗ (∃ r, prngReg c r)
    ∗ (StableHlo.held (c.tc : Thread nD τ) others (val2 m c) ∗ emp) ∗ semVal (barCell c) 0 ∗ ∃ Wd, owes (c : Thread nD τ) (0 : CellTallies nD τ sig Unit) Wd) ⊢ _
  rw [StableHlo.held_sub_split (c.tc : Thread nD τ) arrs_sub]
  iintro ⟨Ha, -, ⟨Hr, -⟩, Hb, HO⟩
  isplitr [HO]
  · isplitl [Ha Hr]
    · isplitl [Ha] <;> iassumption
    iexact Hb
  iexact HO

/-! ## What each device starts with -/

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

abbrev start (c : Dev nD) : sProp 𝕄 := iprop(StableHlo.held (c : Thread nD τ) bufs (val0 m c) ∗ rides m c)
abbrev finish (c : Dev nD) : sProp 𝕄 := iprop(StableHlo.held (c : Thread nD τ) bufs (val2 m c) ∗ semVal (barCell c) 0)

/-- What every device may consult. -/
def known (κ : GSem nD τ sig → ℕ) : sProp 𝕄 :=
  iprop(recs (actIn m) (wgtIn m) κ ∗ bigSep Finset.univ fun c : Dev nD => reached ER (barCell c) 0)
instance known_persistent (κ : GSem nD τ sig → ℕ) : BI.Persistent (known m κ) := by unfold known; infer_instance

/-- What goes to one device alone. -/
def own1 (c : Dev nD) : sProp 𝕄 :=
  iprop((atPos ER (barCell c) 0 ∅ 0 ∗ (bigSep Finset.univ fun x : Copy => iprop(openTok ER (sndCell x.1 x.2.1 x.2.2 c) ∗ openTok ER (rcvCell x.1 x.2.1 x.2.2 c))))
    ∗ (dutyTok ER (barCell (tgt false c)) 0 true ∗ dutyTok ER (barCell (tgt true c)) 0 false) ∗ bigSep Finset.univ (pays c))

/-- A device's holdings at launch that are not the protocol's. -/
def holds (c : Dev nD) : sProp 𝕄 :=
  iprop(StableHlo.held (c : Thread nD τ) bufs (val0 m c)
    ∗ (cred (tallyAt (barCell c) () 2) ∗ bigSep Finset.univ fun x : Copy => cred (tallyAt (rcvCell x.1 x.2.1 x.2.2 c) () N))
    ∗ owes (c : Thread nD τ) (owed₀ c) ∅ ∗ ∃ r, prngReg c r)

theorem start_intro (κ : GSem nD τ sig → ℕ) (c : Dev nD) : iprop(known m κ ∗ (own1 c ∗ holds m c)) ⊢ start m c := by
  have hs : iprop((bigSep Finset.univ fun x : Copy => iprop(openTok ER (sndCell x.1 x.2.1 x.2.2 c) ∗ openTok ER (rcvCell x.1 x.2.1 x.2.2 c)))
        ∗ (bigSep Finset.univ (pays c)) ∗ bigSep Finset.univ fun x : Copy => cred (tallyAt (rcvCell x.1 x.2.1 x.2.2 c) () N))
      ⊢ (bigSep Finset.univ (shut1 c) : sProp 𝕄) := by
    refine (BIClass.sep_mono (BI.Entails.refl _) (sep_pairs _ _)).trans ((sep_pairs _ _).trans ?_)
    exact Entails.of_eq rfl
  have hr : ∀ c' : Dev nD, (bigSep Finset.univ fun c : Dev nD => (reached ER (barCell c) 0 : sProp 𝕄)) ⊢ reached ER (barCell c') 0 :=
    fun c' => bigSep_elim (Finset.mem_univ c')
  unfold known own1 holds start rides entry shut shakeKit
  iintro ⟨⟨#HR, #Hr⟩, ⟨⟨Ha, Ho⟩, ⟨Ht1, Ht2⟩, Hp⟩, Hh, ⟨Hc, Hcs⟩, HO, Hg⟩
  isplitl [Hh]; · iexact Hh
  isplitl [Ha Ho Ht1 Ht2 Hp Hc Hcs]
  · isplitr
    · iexists κ; iexact HR
    isplitl [Ha Hc Ht1 Ht2]
    · isplitl [Ha]; · iexact Ha
      isplitl [Hc]; · iexact Hc
      isplitl [Ht1]; · iexact Ht1
      isplitl [Ht2]; · iexact Ht2
      isplitr
      · iapply (hr (tgt false c)); iexact Hr
      · iapply (hr (tgt true c)); iexact Hr
    iapply hs
    isplitl [Ho]; · iexact Ho
    isplitl [Hp] <;> iassumption
  isplitl [Hg]; · iexact Hg
  iexists ∅; iexact HO

theorem launch :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ ghost c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ ghost c)
      ⊢ (iprop(holds m c ∗ (semVal (barCell c) 0 ∗ ghost c)) : sProp 𝕄) := by
    rw [show unscopedBufs c (fun b => m ((c : Thread nD τ).loc b)) = StableHlo.held (c : Thread nD τ) bufs (val0 m c) from unscoped_held c (val0 m c),
      unscoped_sems]
    unfold holds
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hrec : ∀ κ : GSem nD τ sig → ℕ, (bigSep (barCells ∪ keyCells) fun g => (cellInv ER (ringRd (actIn m) (wgtIn m)) (κ g) g : sProp 𝕄))
      ⊢ recs (actIn m) (wgtIn m) κ := fun κ => Entails.of_eq (by
    rw [bigSep_union cells_apart, bigSep_map, bigSep_map]; rfl)
  have hopen : bigSep keyCells (fun g => (openTok ER g : sProp 𝕄))
      ⊢ bigSep Finset.univ (fun c : Dev nD => bigSep Finset.univ fun x : Copy =>
          iprop(openTok ER (sndCell x.1 x.2.1 x.2.2 c) ∗ openTok ER (rcvCell x.1 x.2.1 x.2.2 c))) :=
    Entails.of_eq (by
      rw [bigSep_map, bigSep_univ_prod, Pipeline.bigSep_univ_comm]
      exact bigSep_congr fun c _ => key_eq (fun k : Key => (openTok ER (keyCell k c) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ ghost c))
      ⊢ (bigSep Finset.univ fun c : Dev nD => iprop(holds m c ∗ (semVal (barCell c) 0 ∗ ghost c)) : sProp 𝕄) from bigSep_mono fun c _ => hcore c) $$ H
  ihave H2 := (un_pairs _ _) $$ H'; icases H2 with ⟨HB, H3⟩
  ihave H4 := (un_pairs _ _) $$ H3; icases H4 with ⟨Hv, HG⟩
  ihave Hu := (show bigSep Finset.univ (ghost (F := F)) ⊢ BI.own (ER (launchOf barCells keyCells duties)) from
    Entails.of_eq (all_onFirst (F := F) (BI.own (ER (launchOf barCells keyCells duties))))) $$ HG
  imod (Rounds.fund_launch ER (ringRd (actIn m) (wgtIn m)) cells_apart (fun g _ h => h) duties) $$ [Hv Hu] with ⟨%κ, -, #Hinv, #Hr, Hat, Hopen, Htok⟩
  · isplitl [Hv]
    · iapply hv $$ Hv
    · iexact Hu
  ihave Htok' := (tokens (F := F)) $$ Htok
  icases Htok' with ⟨Htb, Htp⟩
  imodintro
  iapply (bigSep_with_persistent (R := known m κ) (Φ := fun c => iprop(own1 c ∗ holds m c)) fun c _ => start_intro m κ c)
  isplitr
  · unfold known
    isplitr
    · iapply (hrec κ); iexact Hinv
    · iapply hre; iexact Hr
  iapply (sep_pairs _ _)
  isplitr [HB]
  · unfold own1
    iapply (sep_pairs _ _)
    isplitl [Hat Hopen]
    · iapply (sep_pairs _ _)
      isplitl [Hat]; · iapply hat $$ Hat
      iapply hopen $$ Hopen
    iapply (sep_pairs _ _)
    isplitl [Htb] <;> iassumption
  · iexact HB

/-! ## The run -/

theorem bufs_eq (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2] (by decide +kernel) (by decide +kernel)]
  rfl

theorem sem_only : ∀ sm : SemLoc sig, sm.isScoped .tc = false → sm = .reg barrier0 := by decide +kernel

/-- What a run leaves on a device. -/
def leaves (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ s.mem ((c : Thread nD τ).loc main_v2) = outBuf m c

set_option backward.isDefEq.respectTransparency.types false in
/-- The run: it ends, the arguments unchanged, the result as computed, every counter at zero. -/
theorem run_main : θ_run defs (onTc (τ := τ) (main (F := F))) ⟨m, fun _ => 0, ρ⟩
    (fun r => (∀ c : Dev nD, leaves m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact BI.Entails.refl _)
    (by simp only [segs, Pipeline.Seg.pipes_host, Pipeline.Seg.pipes_region, Pipeline.Seg.pipes_nil]; decide)
    (O₀ := owed₀) (hL := L_of_ne) (G := ghost) (u₀ := seed (F := F))
    (hu₀ := by
      unfold seed ghost
      iintro Hu
      ihave H := (ownU_pair _ _) $$ Hu
      icases H with ⟨HP, HX⟩
      imodintro
      isplitl [HP]; · iexact HP
      rw [all_onFirst]; iexact HX)
    (T₀ := start m) (Tₙ := finish m)
    (hch := ⟨fun c => .rfl, fun c => reg0_pre m c, fun c => reg0_post m c⟩)
    (hinit := launch m ρ)
    (QY := fun c s => ((s.mem ((c : Thread nD τ).loc main_arg0) = val2 m c (Proc.devRef .tc main_arg0) ∧ s.mem ((c : Thread nD τ).loc main_arg1) = val2 m c (Proc.devRef .tc main_arg1))
        ∧ s.mem ((c : Thread nD τ).loc main_v2) = val2 m c (Proc.devRef .tc main_v2)) ∧ s.sem (barCell c) = 0)
    (hfin := fun c s' => by
      dsimp only [finish]; rw [bufs_eq]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨⟨Buf.eq_of_forall_mem_univ h0, Buf.eq_of_forall_mem_univ h1⟩, Buf.eq_of_forall_mem_univ h2⟩, by simpa using hb⟩
      iexact HSI)
    (hQ := fun s h hs => ⟨fun c => by
        obtain ⟨⟨⟨h0, h1⟩, h2⟩, -⟩ := h c
        rw [val2_ne m c _ (by decide)] at h0 h1
        exact ⟨⟨h0.trans (V_main_arg0 m c), h1.trans (V_main_arg1 m c)⟩, h2.trans (val2_out m c)⟩,
      sem_eq_zero hs fun c sm hsm => by
        obtain rfl := sem_only sm hsm
        exact (h c).2⟩)

end Cert.KernelIdeal.Ring

end
-- ==== Proof.Sum.lean ====
/-
  What the ring computes over the extended reals: every entry of the result is the activation of the sum, over the
  devices, of the entries of their products.
-/
module

public import proofs.«01_k».proof.Proof.Region
public import Idealize.ShloMosaic.Lib.MatmulPlain
public import Idealize.ShloMosaic.Lib.ValueIdx
public import Idealize.ShloMosaic.Lib.Pipeline.Value

@[expose] public section

noncomputable section

namespace Cert.KernelIdeal.Ring

open Idealize.ShloMosaic Idealize.ShloMosaic.TcCoe Idealize.ShloMosaic.ValueIdx
open Cert.KernelIdeal Cert.KernelIdeal.Gen

/-! ## The ring's arithmetic -/

/-- Which block of rows a device's copy of step `n` carries. -/
def carried (d : Bool) (n : ℕ) (c : Dev nD) : Fin 8 := ⟨(cond d (c.val + 7 + 7 * n) (c.val + 1 + n)) % 8, Nat.mod_lt _ (by decide)⟩

theorem carried_src : ∀ (d : Bool) (n : Fin 7) (c : Dev nD), carried d n.val (srcOf d c) = carried d (n.val + 1) c := by decide +kernel
theorem carried_end : ∀ (d : Bool) (c : Dev nD), carried d 7 c = c := by decide +kernel
theorem off_first : ∀ (d : Bool) (c : Dev nD), k0_off1 c (cond d 7#32 1#32) = ![(carried d 0 c).val, 0, 0] := by decide +kernel
theorem off_step : ∀ (d : Bool) (s : Fin 7) (c : Dev nD), xStepOff d s c = ![(carried d (s.val + 1) c).val, 0, 0] := by decide +kernel
theorem ring_all : ∀ (d : Bool) (c : Dev nD), Function.Bijective fun t : Fin 8 => (srcOf d)^[t.val] c := by decide +kernel

/-! ## The products -/

section Values

variable (X : Dev nD → Vec Ideal S8x256x256 .bf16) (Y : Dev nD → Vec Ideal S256x2048 .bf16)

/-- A device's product of a block of its rows and its weights, at an entry. -/
def prod (c : Dev nD) (k : Fin 8) (r : Fin 256) (j : Fin 2048) : EReal := ∑ t : Fin 256, X c (ix3 k r t) * Y c (ix2 t j)

/-- A column of a direction's half, among all. -/
def col (d : Bool) (j : Fin 1024) : Fin 2048 := ⟨cond d 0 1024 + j.val, by have := j.isLt; cases d <;> simp only [cond] <;> omega⟩
/-- A column of a sub-block, among its half. -/
def sub (q : Fin 2) (j : Fin 512) : Fin 1024 := ⟨512 * q.val + j.val, by have := j.isLt; have := q.isLt; omega⟩

theorem dot_plain : dot_S256x256_S256x1024_S256x1024_1_0_0_1_n_n = DotDims.plain 256 256 1024 := rfl

theorem part_apply (xb : Vec Ideal S1x256x256 .bf16) (wb : Vec Ideal S256x1024 .bf16) (r : Fin 256) (j : Fin 1024) :
    part xb wb (ix2 r j) = ∑ t : Fin 256, xb (ix3 0 r t) * wb (ix2 t j) := by
  unfold part k0_pay3
  simp only [matmul]
  rw [dot_plain, Ideal.matmul_plain_apply, constant_apply, Ideal.ofBits_zero_f32, zero_add]
  refine Finset.sum_congr rfl fun t _ => ?_
  rw [shapeCast_self]
  refine congrArg (· * wb (ix2 t j)) (shapeCast_apply xb _ (ix2 r t) (ix3 0 r t) ?_)
  rw [Shape.rowMajor_val_three, Shape.rowMajor_val_two]
  show (0 * 256 + r.val) * 256 + t.val = r.val * 256 + t.val
  omega

theorem firstV_apply (xb : Vec Ideal S1x256x256 .bf16) (wb : Vec Ideal S256x1024 .bf16) (i : S256x1024.Idx) :
    firstV xb wb i = part xb wb i := by
  have e : firstV xb wb = shapeCast S256x1024 (truncf .bf16 (part xb wb) bitsLt_bf16_f32) shapeCasts_S256x1024_S256x1024 := rfl
  rw [e, shapeCast_self, truncf_apply]

theorem act_entry (off : Fin 3 → ℕ) (h : ∀ a, off a + S1x256x256.size a ≤ S8x256x256.size a) (k : Fin 8) (e : off = ![k.val, 0, 0]) (r t : Fin 256) :
    (Rect.unit (s := S8x256x256) off S1x256x256.size h).emb (ix3 0 r t) = ix3 k r t := by
  subst e
  funext a
  apply Fin.ext
  fin_cases a
  · show k.val + 1 * 0 = k.val; omega
  · show 0 + 1 * r.val = r.val; omega
  · show 0 + 1 * t.val = t.val; omega

theorem wgt_entry (d : Bool) (t : Fin 256) (j : Fin 1024) : (wR d).emb (ix2 t j) = ix2 t (col d j) := by
  funext a
  apply Fin.ext
  fin_cases a
  · show 0 + 1 * t.val = t.val; omega
  · show cond d 0 1024 + 1 * j.val = cond d 0 1024 + j.val; omega

theorem half_entry (q : Fin 2) (r : Fin 256) (j : Fin 512) : (halfR q).emb (ix2 r j) = ix2 r (sub q j) := by
  funext a
  apply Fin.ext
  fin_cases a
  · show 0 + 1 * r.val = r.val; omega
  · show 512 * q.val + 1 * j.val = 512 * q.val + j.val; omega

theorem addend_apply (d : Bool) (c : Dev nD) (s : Fin 7) (r : Fin 256) (j : Fin 1024) :
    addend X Y d c s (ix2 r j) = prod X Y c (carried d (s.val + 1) c) r (col d j) := by
  unfold addend prod
  rw [part_apply]
  exact Finset.sum_congr rfl fun t _ => by rw [act_entry _ _ _ (off_step d s c), wgt_entry]

theorem first_apply (d : Bool) (c : Dev nD) (r : Fin 256) (j : Fin 1024) :
    first X Y d c (ix2 r j) = prod X Y c (carried d 0 c) r (col d j) := by
  unfold first prod
  rw [firstV_apply, part_apply]
  exact Finset.sum_congr rfl fun t _ => by rw [act_entry _ _ _ (off_first d c), wgt_entry]

theorem sumW_apply (q : Fin 2) (p : FVec Ideal S256x1024 .f32) (w : Vec Ideal S256x512 .bf16) (r : Fin 256) (j : Fin 512) :
    sumW q p w (ix2 r j) = (w (ix2 r j) : EReal) + p (ix2 r (sub q j)) := by
  unfold sumW
  rw [addf_apply, extf_apply]
  refine congrArg (fun i => (w (ix2 r j) : EReal) + p i) (funext fun a => Fin.ext ?_)
  fin_cases a
  · show 0 + r.val = r.val; omega
  · rfl

/-- The sum so far of a block of rows' products, from the device a copy came from back to the first. -/
def gathered (d : Bool) (n : ℕ) (c : Dev nD) (k : Fin 8) (r : Fin 256) (j : Fin 2048) : EReal :=
  ∑ t ∈ Finset.range n, prod X Y ((srcOf d)^[t] c) k r j

theorem gathered_succ (d : Bool) (n : ℕ) (c : Dev nD) (k : Fin 8) (r : Fin 256) (j : Fin 2048) :
    gathered X Y d (n + 1) c k r j = gathered X Y d n (srcOf d c) k r j + prod X Y c k r j := by
  unfold gathered
  rw [Finset.sum_range_succ']
  rfl

theorem wire_apply (d : Bool) (q : Fin 2) (r : Fin 256) (j : Fin 512) : ∀ (n : ℕ) (_ : n < 7) (c : Dev nD),
    wire X Y d q n c (ix2 r j) = gathered X Y d (n + 1) c (carried d n c) r (col d (sub q j))
  | 0, _, c => by
    show first X Y d c ((halfR q).emb (ix2 r j)) = _
    rw [half_entry, first_apply, gathered_succ]
    unfold gathered
    rw [Finset.sum_range_zero, zero_add]
  | n + 1, h, c => by
    have e : wire X Y d q (n + 1) c (ix2 r j)
        = (wire X Y d q n (srcOf d c) (ix2 r j) : EReal) + addend X Y d c (slotIx n) (ix2 r (sub q j)) := by
      show nextW q _ _ (ix2 r j) = _
      unfold nextW
      rw [shapeCast_self, truncf_apply, sumW_apply]
    rw [e, wire_apply d q r j n (by omega), addend_apply, slotIx_of_lt (show n < 7 by omega), gathered_succ X Y d (n + 1),
      show carried d n (srcOf d c) = carried d (n + 1) c from carried_src d ⟨n, by omega⟩ c]

theorem gathered_all (d : Bool) (c : Dev nD) (k : Fin 8) (r : Fin 256) (j : Fin 2048) :
    gathered X Y d 8 c k r j = ∑ e : Dev nD, prod X Y e k r j := by
  unfold gathered
  rw [Finset.sum_range fun t => prod X Y ((srcOf d)^[t] c) k r j]
  exact (Equiv.ofBijective _ (ring_all d c)).sum_comp fun e => prod X Y e k r j

/-- The activation function. -/
def act (a : EReal) : EReal :=
  Ideal.ofBits .f32 0x3F000000#32 * a
    * (Ideal.ofBits .f32 0x3F800000#32
      + Ideal.tanh (Ideal.ofBits .f32 0x3F4C422A#32 * (a + Ideal.ofBits .f32 0x3D372713#32 * a * a * a)))

theorem geluV_apply (a : FVec Ideal S256x512 .f32) (i : S256x512.Idx) : geluV a i = act (a i) := rfl

theorem final_apply (d : Bool) (q : Fin 2) (c : Dev nD) (r : Fin 256) (j : Fin 512) :
    final X Y d q c (ix2 r j) = act (∑ e : Dev nD, prod X Y e c r (col d (sub q j))) := by
  unfold final
  rw [geluV_apply, sumW_apply, wire_apply X Y d q r j 6 (by decide), addend_apply]
  have h : carried d 6 (srcOf d c) = c := (carried_src d 6 c).trans (carried_end d c)
  have h' : carried d ((6 : Fin 7).val + 1) c = c := carried_end d c
  rw [h, h', ← gathered_succ X Y d 7, gathered_all]

theorem Out_apply (c : Dev nD) (r : Fin 256) (j : Fin 2048) :
    Out X Y c (ix2 r j) = act (∑ e : Dev nD, prod X Y e c r j) := by
  have hj := j.isLt
  have e : within (ix2 r j) = ix2 r (⟨j.val % 512, Nat.mod_lt _ (by decide)⟩ : Fin 512) := by
    funext a
    apply Fin.ext
    fin_cases a <;> rfl
  show final X Y (decide (j.val < 1024)) (blockOf (ix2 r j)) c (within (ix2 r j)) = _
  rw [e, final_apply]
  refine congrArg (fun i => act (∑ e : Dev nD, prod X Y e c r i)) (Fin.ext ?_)
  show cond (decide (j.val < 1024)) 0 1024 + (512 * (j.val % 1024 / 512) + j.val % 512) = j.val
  by_cases h : j.val < 1024
  · rw [decide_eq_true h]; simp only [cond]; omega
  · rw [decide_eq_false h]; simp only [cond]; omega

end Values

end Cert.KernelIdeal.Ring

end
-- ==== Proof.Value.lean ====
/-
  The value claim over the extended reals: the devices' results, row block by row block, are the reference's.
-/
module

public import proofs.«01_k».proof.Defs
public import proofs.«01_k».proof.Proof.Run
public import proofs.«01_k».proof.Proof.Sum
public import proofs.«01_k».proof.Proof.Gen.ReferenceIdeal.Run
public import Idealize.ShloMosaic.Lib.StackMember

@[expose] public section

noncomputable section

namespace Cert.KernelIdeal.Ring

open Idealize.ShloMosaic Idealize.ShloMosaic.TcCoe Idealize.ShloMosaic.ValueIdx Idealize.SL.Sem
open Idealize.ShloMosaic.Pipeline (Dat)
open Cert.KernelIdeal Cert.KernelIdeal.Gen

/-! ## The region's arrays -/

section Arrays

variable {F : FTy → Type} [FloatOps F] (m : (ℓ : Loc nD τ sig) → Buf (Elt F) ℓ)

theorem flushed_out (c : Dev nD) (t : Fin cfg0.N) (_ : (cfg0.win 2).flush t = true) :
    (dat m c).flushed 2 t = ((cfg0.win 2).blk t).view.read (Elt F) (outVal m c : Buf (Elt F) ((c : Thread nD τ).loc main_v2)) := by
  obtain rfl := fin_N0 t
  show (cfg0.win 2).cut (grid0.coords t0_0) ((dat m c).after 2 t0_0) = _
  have hz : (fun a => win0_2.index t0_0 a * main_v2.ty.shape.size a) = fun _ => 0 := funext fun a => by fin_cases a <;> decide
  exact (Memref.read_access_unit_zero (Elt F) main_v2 hz (fun a => by rw [congrFun hz a]; simp) (outVal m c)).symm

theorem outBuf_eq (c : Dev nD) : outBuf m c = outVal m c :=
  (dat m c).arrAt_eq_of_cover 2 (outVal m c) (flushed_out m c) fun i =>
    ⟨t0_0, flush0_2 t0_0, by
      show i ∈ ((View.whole main_v2).slice (win0_2.rect t0_0)).set
      rw [View.set_slice_whole, Rect.mem_set_unit]
      intro a
      have h0 : (i 0 : Nat) < 256 := (i 0).isLt
      have h1 : (i 1 : Nat) < 2048 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 256 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 2048 from by decide +kernel]; omega⟩

theorem wgtIn_eq (c : Dev nD) : wgtIn m c = m ((c : Thread nD τ).loc main_arg1) := by
  have hz : (fun a => win0_1.index t0_0 a * main_arg1.ty.shape.size a) = fun _ => 0 := funext fun a => by fin_cases a <;> decide
  exact (Memref.read_access_unit_zero (Elt F) main_arg1 hz (fun a => by rw [congrFun hz a]; simp) (V m c main_arg1)).trans (V_main_arg1 m c)

theorem rows_found (c : Dev nD) : V m c main_v1
    = shapeCast S8x256x256 (m ((c : Thread nD τ).loc main_arg0)) shapeCasts_S2048x256_S8x256x256 := by
  unfold V hostOps0
  after_results
  rfl

theorem actIn_eq (c : Dev nD) : actIn m c
    = shapeCast S8x256x256 (m ((c : Thread nD τ).loc main_arg0)) shapeCasts_S2048x256_S8x256x256 := by
  have hz : (fun a => win0_0.index t0_0 a * main_v1.ty.shape.size a) = fun _ => 0 := funext fun a => by fin_cases a <;> decide
  exact (Memref.read_access_unit_zero (Elt F) main_v1 hz (fun a => by rw [congrFun hz a]; simp) (V m c main_v1)).trans (rows_found m c)

end Arrays

/-! ## Blocks of the whole arrays -/

/-- Position `r` of block `k`. -/
def at8 (k : Fin 8) (r : Fin 256) : Fin 2048 := ⟨k.val * 256 + r.val, by have := k.isLt; have := r.isLt; omega⟩

/-- A sum over all positions, block by block. -/
theorem sum_blocks (f : Fin 2048 → EReal) : ∑ u : Fin 2048, f u = ∑ k : Fin 8, ∑ t : Fin 256, f (at8 k t) := by
  rw [← (finProdFinEquiv (m := 8) (n := 256)).sum_comp f, Fintype.sum_prod_type]
  refine Finset.sum_congr rfl fun k _ => Finset.sum_congr rfl fun t _ => congrArg f (Fin.ext ?_)
  show t.val + 256 * k.val = k.val * 256 + t.val
  omega

section Whole

variable (A B : (⟨2, ![2048, 2048]⟩ : Shape).Idx → EReal)

theorem cols_apply (c : Fin 8) (u : Fin 2048) (t : Fin 256) :
    Layout.block ⟨2, ![2048, 256]⟩ ⟨2, ![2048, 2048]⟩ 1 8 c A (by decide) (ix2 u t) = A (ix2 u (at8 c t)) := by
  rw [Layout.block_apply]
  refine congrArg A (funext fun a => Fin.ext ?_)
  fin_cases a <;> rfl

theorem rows_apply (c : Fin 8) (t : Fin 256) (j : Fin 2048) :
    Layout.block ⟨2, ![256, 2048]⟩ ⟨2, ![2048, 2048]⟩ 0 8 c B (by decide) (ix2 t j) = B (ix2 (at8 c t) j) := by
  rw [Layout.block_apply]
  refine congrArg B (funext fun a => Fin.ext ?_)
  fin_cases a <;> rfl

/-- Rows read block by block. -/
theorem reshaped (x : S2048x256.Idx → EReal) (k : Fin 8) (r t : Fin 256) :
    shapeCast S8x256x256 x shapeCasts_S2048x256_S8x256x256 (ix3 k r t) = x (ix2 (at8 k r) t) :=
  shapeCast_apply x _ _ _ (by
    rw [Shape.rowMajor_val_three, Shape.rowMajor_val_two]
    rfl)

/-- The whole result. -/
def whole : (⟨2, ![2048, 2048]⟩ : Shape).Idx → EReal := fun i => act (∑ u : Fin 2048, A (ix2 (i 0) u) * B (ix2 u (i 1)))

end Whole

variable (m : (ℓ : Loc nD τ sig) → Buf (Elt Ideal) ℓ)

/-- A device's result is its row block of the whole result. -/
theorem out_block (A B : (⟨2, ![2048, 2048]⟩ : Shape).Idx → EReal)
    (hA : ∀ c : Dev nD, m ((c : Thread nD τ).loc main_arg0) = Layout.block ⟨2, ![2048, 256]⟩ ⟨2, ![2048, 2048]⟩ 1 8 c A)
    (hB : ∀ c : Dev nD, m ((c : Thread nD τ).loc main_arg1) = Layout.block ⟨2, ![256, 2048]⟩ ⟨2, ![2048, 2048]⟩ 0 8 c B)
    (c : Dev nD) : outVal m c = Layout.block ⟨2, ![256, 2048]⟩ ⟨2, ![2048, 2048]⟩ 0 8 c (whole A B) := by
  funext i
  obtain ⟨r, j, rfl⟩ : ∃ (r : Fin 256) (j : Fin 2048), i = ix2 r j := ⟨i 0, i 1, eq_ix2 i⟩
  rw [rows_apply]
  unfold outVal
  rw [Out_apply]
  show act _ = act (∑ u : Fin 2048, A (ix2 (at8 c r) u) * B (ix2 u j))
  rw [sum_blocks]
  refine congrArg act (Finset.sum_congr rfl fun e _ => ?_)
  unfold prod
  refine Finset.sum_congr rfl fun t _ => ?_
  rw [actIn_eq, wgtIn_eq, hB e, rows_apply]
  refine congrArg (· * B (ix2 (at8 e t) j)) ?_
  exact (reshaped _ c r t).trans ((congrFun (hA e) _).trans (cols_apply A e (at8 c r) t))

end Cert.KernelIdeal.Ring

/-! ## The reference -/

namespace Cert.ReferenceIdeal.Value

open Cert.ReferenceIdeal Cert.ReferenceIdeal.Gen Idealize.ShloMosaic Idealize.ShloMosaic.TcCoe Idealize.ShloMosaic.ValueIdx
open Cert.KernelIdeal.Ring (act whole)

/-- The product the reference computes, rounded and widened again. -/
def product (A B : Vec Ideal S2048x2048 .bf16) : FVec Ideal S2048x2048 .f32 :=
  extf .f32 (truncf .bf16 (Host.dotGeneral (F := Ideal) (φ₁ := .bf16) (φ₂ := .bf16) dot_S2048x2048_S2048x2048_S2048x2048_1_0_0_1_n_n none
    A B : FVec Ideal S2048x2048 .f32) bitsLt_bf16_f32) bitsLt_bf16_f32

/-- The reference's activation of a product. -/
def gelu (y : FVec Ideal S2048x2048 .f32) : FVec Ideal S2048x2048 .f32 :=
  mulf (mulf (broadcastInDim S2048x2048 ![] bcast_S_S2048x2048 (constant S_ .f32 0x3F000000#32)) y)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf y (mulf (broadcastInDim S2048x2048 ![] bcast_S_S2048x2048 (constant S_ .f32 0x3D372713#32)) (mulf (mulf y y) y))))))

theorem product_apply (A B : Vec Ideal S2048x2048 .bf16) (a b : Fin 2048) :
    product A B (ix2 a b) = ∑ u : Fin 2048, A (ix2 a u) * B (ix2 u b) := by
  unfold product
  rw [extf_apply, truncf_apply, show dot_S2048x2048_S2048x2048_S2048x2048_1_0_0_1_n_n = DotDims.plain 2048 2048 2048 from rfl, StackMember.dotGeneral_plain_apply]

theorem gelu_apply (y : FVec Ideal S2048x2048 .f32) (i : S2048x2048.Idx) : gelu y i = act (y i) := by
  have e : gelu y i = Ideal.ofBits .f32 0x3F000000#32 * y i
      * (Ideal.ofBits .f32 0x3F800000#32
        + Ideal.tanh (Ideal.ofBits .f32 0x3F4C422A#32 * (y i + Ideal.ofBits .f32 0x3D372713#32 * (y i * y i * y i)))) := rfl
  rw [e]
  unfold act
  rw [mul_assoc (Ideal.ofBits .f32 0x3D372713#32 * y i), mul_assoc (Ideal.ofBits .f32 0x3D372713#32), ← mul_assoc (y i) (y i) (y i)]

theorem value_eq (A B : Vec Ideal S2048x2048 .bf16) : gelu (product A B) = whole A B := by
  funext i
  obtain ⟨a, b, rfl⟩ : ∃ (a b : Fin 2048), i = ix2 a b := ⟨i 0, i 1, eq_ix2 i⟩
  rw [gelu_apply, product_apply]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_printed : Cert.quiescent_Kernel (hKernel := Cert.Kernel.Gen.facts) := fun m g _ =>
  (θ_run _ _ _).mono (fun _ h => ⟨fun c => (h.1 c).1, h.2⟩) (Cert.Kernel.Ring.run_main (F := Bits) m g)

theorem frame_ideal : Cert.quiescent_KernelIdeal (hKernelIdeal := Cert.KernelIdeal.Gen.facts) := fun m g _ =>
  (θ_run _ _ _).mono (fun _ h => ⟨fun c => (h.1 c).1, h.2⟩) (Cert.KernelIdeal.Ring.run_main (F := Ideal) m g)

theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

theorem value_equal : Cert.algebraic_KernelIdeal_ReferenceIdeal (hKernelIdeal := Cert.KernelIdeal.Gen.facts)
    (hReferenceIdeal := Cert.ReferenceIdeal.Gen.facts) := fun m g m' g' _ hm => by
  refine ⟨_, (θ_run _ _ _).mono (fun _ h c => ⟨?_, (h.1 c).1.1, (h.1 c).1.2⟩) (Cert.KernelIdeal.Ring.run_main (F := Ideal) m g),
    (θ_run _ _ _).mono (fun _ h => ⟨((h 0).1).trans (Cert.ReferenceIdeal.Value.value_eq _ _), (h 0).2⟩)
      (Cert.ReferenceIdeal.Value.run (F := Ideal) m' g')⟩
  exact ((h.1 c).2.trans (Cert.KernelIdeal.Ring.outBuf_eq m c)).trans
    (Cert.KernelIdeal.Ring.out_block m _ _ (fun c => (hm c).1) (fun c => (hm c).2) c)

theorem claim : Cert.Claim := ⟨Cert.Kernel.Gen.facts, Cert.KernelIdeal.Gen.facts, Cert.ReferenceIdeal.Gen.facts,
  frame_printed, frame_ideal, frame_reference, trivial, value_equal⟩

end Cert.Proof

end
